-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_sizes_fit : Cert.Pre_sizes_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_sizes_fit : Cert.Pre_sizes_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sizes_fit : Cert.Pre_sizes_fit.Facts),
    quiescent_Kernel (hKernel := hKernel) (hPre_sizes_fit := hPre_sizes_fit)
    ∧ quiescent_KernelIdeal (hKernelIdeal := hKernelIdeal) (hPre_sizes_fit := hPre_sizes_fit)
    ∧ quiescent_ReferenceIdeal (hReferenceIdeal := hReferenceIdeal) (hPre_sizes_fit := hPre_sizes_fit)
    ∧ preserves_Kernel_KernelIdeal
    ∧ algebraic_KernelIdeal_ReferenceIdeal (hKernelIdeal := hKernelIdeal) (hReferenceIdeal := hReferenceIdeal) (hPre_sizes_fit := hPre_sizes_fit)
-- ==== Pre_sizes_fit.lean ====
abbrev S1024x16384 : Shape := ⟨2, ![1024, 16384]⟩
abbrev S3 : Shape := ⟨1, ![3]⟩
abbrev S3x16384x6144 : Shape := ⟨3, ![3, 16384, 6144]⟩
abbrev S3x6144 : Shape := ⟨2, ![3, 6144]⟩
abbrev S1 : Shape := ⟨1, ![1]⟩
abbrev S_ : Shape := ⟨0, ![]⟩

class Facts : Prop where
  slices_S3_S1_0 : S3.Slices ![0] S1
  shapeCasts_S1_S_ : S1.ShapeCasts S_
  slices_S3_S1_1 : S3.Slices ![1] S1
  slices_S3_S1_2 : S3.Slices ![2] S1
  bcast_S_S3 : S_.BroadcastsInDim S3 (![] : Fin 0 → Fin S3.rank)

variable [Facts]

def fn {F : FTy → Type} [FloatOps F] (main_arg0 : FVec F S1024x16384 .bf16) (main_arg1 : IVec S3 32) (main_arg2 : FVec F S3 .f32) (main_arg3 : FVec F S3x16384x6144 .fp8e4m3) (main_arg4 : FVec F S3x6144 .f32) : IVec S3 1 :=
  let main_v0 : IVec S1 32 := (extractStridedSlice S1 ![0] · slices_S3_S1_0) main_arg1
  let main_v1 : IVec S_ 32 := shapeCast S_ main_v0 shapeCasts_S1_S_
  let main_v2 : IVec S1 32 := (extractStridedSlice S1 ![1] · slices_S3_S1_1) main_arg1
  let main_v3 : IVec S_ 32 := shapeCast S_ main_v2 shapeCasts_S1_S_
  let main_v4 : IVec S_ 32 := addi main_v1 main_v3
  let main_v5 : IVec S1 32 := (extractStridedSlice S1 ![2] · slices_S3_S1_2) main_arg1
  let main_v6 : IVec S_ 32 := shapeCast S_ main_v5 shapeCasts_S1_S_
  let main_v7 : IVec S_ 32 := addi main_v4 main_v6
  let main_c : IVec S_ 32 := constantI S_ 32 0#32
  let main_v8 : IVec S3 32 := broadcastInDim S3 ![] bcast_S_S3 main_c
  let main_v9 : IVec S3 1 := cmpi .sge main_arg1 main_v8
  let main_c_0 : IVec S_ 32 := constantI S_ 32 1024#32
  let main_v10 : IVec S3 32 := broadcastInDim S3 ![] bcast_S_S3 main_c_0
  let main_v11 : IVec S3 1 := cmpi .sle main_arg1 main_v10
  let main_v12 : IVec S3 1 := andi main_v9 main_v11
  let main_c_1 : IVec S_ 32 := constantI S_ 32 1024#32
  let main_v13 : IVec S_ 1 := cmpi .sle main_v7 main_c_1
  let main_v14 : IVec S3 1 := broadcastInDim S3 ![] bcast_S_S3 main_v13
  let main_v15 : IVec S3 1 := andi main_v12 main_v14
  main_v15
-- ==== Kernel.lean ====
abbrev S1024x16384 : Shape := ⟨2, ![1024, 16384]⟩
abbrev S3 : Shape := ⟨1, ![3]⟩
abbrev S3x16384x6144 : Shape := ⟨3, ![3, 16384, 6144]⟩
abbrev S3x6144 : Shape := ⟨2, ![3, 6144]⟩
abbrev S_ : Shape := ⟨0, ![]⟩
abbrev S1 : Shape := ⟨1, ![1]⟩
abbrev S4 : Shape := ⟨1, ![4]⟩
abbrev S2 : Shape := ⟨1, ![2]⟩
abbrev S1024 : Shape := ⟨1, ![1024]⟩
abbrev S3x1 : Shape := ⟨2, ![3, 1]⟩
abbrev S1024x1 : Shape := ⟨2, ![1024, 1]⟩
abbrev S1x1 : Shape := ⟨2, ![1, 1]⟩
abbrev S32x16384 : Shape := ⟨2, ![32, 16384]⟩
abbrev S32x1 : Shape := ⟨2, ![32, 1]⟩
abbrev S3x1x6144 : Shape := ⟨3, ![3, 1, 6144]⟩
abbrev S1024x6144 : Shape := ⟨2, ![1024, 6144]⟩
abbrev S1x16384x512 : Shape := ⟨3, ![1, 16384, 512]⟩
abbrev S1x1x512 : Shape := ⟨3, ![1, 1, 512]⟩
abbrev S1024x512 : Shape := ⟨2, ![1024, 512]⟩
abbrev S256x512 : Shape := ⟨2, ![256, 512]⟩
abbrev S1x512 : Shape := ⟨2, ![1, 512]⟩
abbrev S256x2048 : Shape := ⟨2, ![256, 2048]⟩
abbrev S1x2048x512 : Shape := ⟨3, ![1, 2048, 512]⟩
abbrev S2048x512 : Shape := ⟨2, ![2048, 512]⟩

abbrev nBuf : Space → Nat
  | .hbm => 98
  | .vmem => 14
  | .smem => 3
  | _ => 0

abbrev bufTy : (tb : Table) → Fin (tcTables nBuf tb) → BufTy
  | .hbm, ⟨0, _⟩ => ⟨S1024x16384, .bf16⟩
  | .hbm, ⟨1, _⟩ => ⟨S3, .i32⟩
  | .hbm, ⟨2, _⟩ => ⟨S3, .f32⟩
  | .hbm, ⟨3, _⟩ => ⟨S3x16384x6144, .fp8e4m3⟩
  | .hbm, ⟨4, _⟩ => ⟨S3x6144, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S3, .i32⟩
  | .hbm, ⟨10, _⟩ => ⟨S3, .i32⟩
  | .hbm, ⟨11, _⟩ => ⟨S1, .i32⟩
  | .hbm, ⟨12, _⟩ => ⟨S2, .i32⟩
  | .hbm, ⟨13, _⟩ => ⟨S3, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S3, .i32⟩
  | .hbm, ⟨18, _⟩ => ⟨S_, .i32⟩
  | .hbm, ⟨19, _⟩ => ⟨S_, .i32⟩
  | .hbm, ⟨20, _⟩ => ⟨S3, .i32⟩
  | .hbm, ⟨21, _⟩ => ⟨S_, .i32⟩
  | .hbm, ⟨22, _⟩ => ⟨S1024, .i32⟩
  | .hbm, ⟨23, _⟩ => ⟨S_, .i32⟩
  | .hbm, ⟨24, _⟩ => ⟨S3, .i32⟩
  | .hbm, ⟨25, _⟩ => ⟨S3, .i1⟩
  | .hbm, ⟨26, _⟩ => ⟨S_, .i32⟩
  | .hbm, ⟨27, _⟩ => ⟨S3, .i32⟩
  | .hbm, ⟨28, _⟩ => ⟨S3, .i32⟩
  | .hbm, ⟨29, _⟩ => ⟨S3, .i32⟩
  | .hbm, ⟨30, _⟩ => ⟨S3x1, .i32⟩
  | .hbm, ⟨31, _⟩ => ⟨S_, .i32⟩
  | .hbm, ⟨32, _⟩ => ⟨S3, .i32⟩
  | .hbm, ⟨33, _⟩ => ⟨S1024, .i32⟩
  | .hbm, ⟨34, _⟩ => ⟨S_, .i32⟩
  | .hbm, ⟨35, _⟩ => ⟨S_, .i32⟩
  | .hbm, ⟨36, _⟩ => ⟨S1024, .i32⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S_, .i32⟩
  | .hbm, ⟨41, _⟩ => ⟨S1024, .i32⟩
  | .hbm, ⟨42, _⟩ => ⟨S1024, .i1⟩
  | .hbm, ⟨43, _⟩ => ⟨S_, .i32⟩
  | .hbm, ⟨44, _⟩ => ⟨S1024, .i32⟩
  | .hbm, ⟨45, _⟩ => ⟨S1024, .i32⟩
  | .hbm, ⟨46, _⟩ => ⟨S1024, .i32⟩
  | .hbm, ⟨47, _⟩ => ⟨S1024x1, .i32⟩
  | .hbm, ⟨48, _⟩ => ⟨S1, .i32⟩
  | .hbm, ⟨49, _⟩ => ⟨S_, .i32⟩
  | .hbm, ⟨50, _⟩ => ⟨S1024x1, .i32⟩
  | .hbm, ⟨51, _⟩ => ⟨S1024x1, .i1⟩
  | .hbm, ⟨52, _⟩ => ⟨S1x1, .i32⟩
  | .hbm, ⟨53, _⟩ => ⟨S1024x1, .i32⟩
  | .hbm, ⟨54, _⟩ => ⟨S1024x1, .i1⟩
  | .hbm, ⟨55, _⟩ => ⟨S1024x1, .i1⟩
  | .hbm, ⟨56, _⟩ => ⟨S_, .i1⟩
  | .hbm, ⟨57, _⟩ => ⟨S1024, .i1⟩
  | .hbm, ⟨58, _⟩ => ⟨S1024, .i32⟩
  | .hbm, ⟨59, _⟩ => ⟨S_, .i32⟩
  | .hbm, ⟨60, _⟩ => ⟨S1024, .i32⟩
  | .hbm, ⟨61, _⟩ => ⟨S1024, .i32⟩
  | .hbm, ⟨62, _⟩ => ⟨S3, .i32⟩
  | .hbm, ⟨63, _⟩ => ⟨S_, .i32⟩
  | .hbm, ⟨64, _⟩ => ⟨S3, .i32⟩
  | .hbm, ⟨65, _⟩ => ⟨S3, .i1⟩
  | .hbm, ⟨66, _⟩ => ⟨S_, .i32⟩
  | .hbm, ⟨67, _⟩ => ⟨S_, .i32⟩
  | .hbm, ⟨68, _⟩ => ⟨S3, .i32⟩
  | .hbm, ⟨69, _⟩ => ⟨S3, .i32⟩
  | .hbm, ⟨70, _⟩ => ⟨S_, .i32⟩
  | .hbm, ⟨71, _⟩ => ⟨S_, .i32⟩
  | .hbm, ⟨72, _⟩ => ⟨S3, .i32⟩
  | .hbm, ⟨73, _⟩ => ⟨S_, .i32⟩
  | .hbm, ⟨74, _⟩ => ⟨S3, .i32⟩
  | .hbm, ⟨75, _⟩ => ⟨S3, .i1⟩
  | .hbm, ⟨76, _⟩ => ⟨S3, .i32⟩
  | .hbm, ⟨77, _⟩ => ⟨S_, .i1⟩
  | .hbm, ⟨78, _⟩ => ⟨S_, .i32⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S3, .i32⟩
  | .hbm, ⟨83, _⟩ => ⟨S3, .i1⟩
  | .hbm, ⟨84, _⟩ => ⟨S3, .i32⟩
  | .hbm, ⟨85, _⟩ => ⟨S_, .i32⟩
  | .hbm, ⟨86, _⟩ => ⟨S1024, .i32⟩
  | .hbm, ⟨87, _⟩ => ⟨S1024, .i1⟩
  | .hbm, ⟨88, _⟩ => ⟨S_, .i32⟩
  | .hbm, ⟨89, _⟩ => ⟨S1024, .i32⟩
  | .hbm, ⟨90, _⟩ => ⟨S1024, .i32⟩
  | .hbm, ⟨91, _⟩ => ⟨S1024, .i32⟩
  | .hbm, ⟨92, _⟩ => ⟨S1024x1, .i32⟩
  | .hbm, ⟨93, _⟩ => ⟨S1024, .f32⟩
  | .hbm, ⟨94, _⟩ => ⟨S1024x1, .f32⟩
  | .hbm, ⟨95, _⟩ => ⟨S1024x16384, .fp8e4m3⟩
  | .hbm, ⟨96, _⟩ => ⟨S3x1x6144, .f32⟩
  | .hbm, ⟨97, _⟩ => ⟨S1024x6144, .bf16⟩
  | .local _ .vmem, ⟨0, _⟩ => ⟨S32x16384, .bf16⟩
  | .local _ .vmem, ⟨1, _⟩ => ⟨S32x16384, .bf16⟩
  | .local _ .vmem, ⟨2, _⟩ => ⟨S32x1, .f32⟩
  | .local _ .vmem, ⟨3, _⟩ => ⟨S32x1, .f32⟩
  | .local _ .vmem, ⟨4, _⟩ => ⟨S32x16384, .fp8e4m3⟩
  | .local _ .vmem, ⟨5, _⟩ => ⟨S32x16384, .fp8e4m3⟩
  | .local _ .vmem, ⟨6, _⟩ => ⟨S1024x16384, .fp8e4m3⟩
  | .local _ .vmem, ⟨7, _⟩ => ⟨S1x16384x512, .fp8e4m3⟩
  | .local _ .vmem, ⟨8, _⟩ => ⟨S1x16384x512, .fp8e4m3⟩
  | .local _ .vmem, ⟨9, _⟩ => ⟨S1x1x512, .f32⟩
  | .local _ .vmem, ⟨10, _⟩ => ⟨S1x1x512, .f32⟩
  | .local _ .vmem, ⟨11, _⟩ => ⟨S1024x512, .bf16⟩
  | .local _ .vmem, ⟨12, _⟩ => ⟨S1024x512, .bf16⟩
  | .local _ .vmem, ⟨13, _⟩ => ⟨S256x512, .f32⟩
  | .local _ .smem, ⟨0, _⟩ => ⟨S4, .i32⟩
  | .local _ .smem, ⟨1, _⟩ => ⟨S3, .i32⟩
  | .local _ .smem, ⟨2, _⟩ => ⟨S3, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v3 : Ref sig .tc := ⟨.hbm, 10, rfl⟩
abbrev main_call1_v0 : Ref sig .tc := ⟨.hbm, 11, rfl⟩
abbrev main_call1_v1 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_call2_call0_c : Ref sig .tc := ⟨.hbm, 18, rfl⟩
abbrev main_call2_call0_v0 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_c_3 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_5 : Ref sig .tc := ⟨.hbm, 31, rfl⟩
abbrev main_v15 : Ref sig .tc := ⟨.hbm, 32, rfl⟩
abbrev main_v16 : Ref sig .tc := ⟨.hbm, 33, rfl⟩
abbrev main_call3_call0_c : Ref sig .tc := ⟨.hbm, 34, rfl⟩
abbrev main_call3_call0_v0 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_call4_c : Ref sig .tc := ⟨.hbm, 40, rfl⟩
abbrev main_call4_v0 : Ref sig .tc := ⟨.hbm, 41, rfl⟩
abbrev main_call4_v1 : Ref sig .tc := ⟨.hbm, 42, rfl⟩
abbrev main_call4_c_0 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_c_1 : Ref sig .tc := ⟨.hbm, 48, rfl⟩
abbrev main_call4_c_2 : Ref sig .tc := ⟨.hbm, 49, rfl⟩
abbrev main_call4_v6 : Ref sig .tc := ⟨.hbm, 50, rfl⟩
abbrev main_call4_v7 : Ref sig .tc := ⟨.hbm, 51, rfl⟩
abbrev main_call4_v8 : Ref sig .tc := ⟨.hbm, 52, rfl⟩
abbrev main_call4_v9 : Ref sig .tc := ⟨.hbm, 53, rfl⟩
abbrev main_call4_v10 : Ref sig .tc := ⟨.hbm, 54, rfl⟩
abbrev main_call4_v11 : Ref sig .tc := ⟨.hbm, 55, rfl⟩
abbrev main_call4_c_3 : Ref sig .tc := ⟨.hbm, 56, rfl⟩
abbrev main_call4_v12 : Ref sig .tc := ⟨.hbm, 57, rfl⟩
abbrev main_call4_v13 : Ref sig .tc := ⟨.hbm, 58, rfl⟩
abbrev main_call4_c_4 : Ref sig .tc := ⟨.hbm, 59, rfl⟩
abbrev main_call4_v14 : Ref sig .tc := ⟨.hbm, 60, rfl⟩
abbrev main_v20 : Ref sig .tc := ⟨.hbm, 61, rfl⟩
abbrev main_v21 : Ref sig .tc := ⟨.hbm, 62, rfl⟩
abbrev main_c_7 : Ref sig .tc := ⟨.hbm, 63, rfl⟩
abbrev main_v22 : Ref sig .tc := ⟨.hbm, 64, rfl⟩
abbrev main_v23 : Ref sig .tc := ⟨.hbm, 65, rfl⟩
abbrev main_c_8 : Ref sig .tc := ⟨.hbm, 66, rfl⟩
abbrev main_call5_v0 : Ref sig .tc := ⟨.hbm, 67, rfl⟩
abbrev main_call5_v1 : Ref sig .tc := ⟨.hbm, 68, rfl⟩
abbrev main_v24 : Ref sig .tc := ⟨.hbm, 69, rfl⟩
abbrev main_call6_c : Ref sig .tc := ⟨.hbm, 70, rfl⟩
abbrev main_call6_v0 : Ref sig .tc := ⟨.hbm, 71, rfl⟩
abbrev main_v25 : Ref sig .tc := ⟨.hbm, 72, rfl⟩
abbrev main_c_9 : Ref sig .tc := ⟨.hbm, 73, rfl⟩
abbrev main_v26 : Ref sig .tc := ⟨.hbm, 74, rfl⟩
abbrev main_v27 : Ref sig .tc := ⟨.hbm, 75, rfl⟩
abbrev main_call7_v0 : Ref sig .tc := ⟨.hbm, 76, rfl⟩
abbrev main_call7_c : Ref sig .tc := ⟨.hbm, 77, rfl⟩
abbrev main_call7_c_0 : Ref sig .tc := ⟨.hbm, 78, rfl⟩
abbrev main_call7_v1_0 : Ref sig .tc := ⟨.hbm, 79, rfl⟩
abbrev main_v28 : Ref sig .tc := ⟨.hbm, 80, rfl⟩
abbrev main_c_10 : Ref sig .tc := ⟨.hbm, 81, rfl⟩
abbrev main_v29 : Ref sig .tc := ⟨.hbm, 82, rfl⟩
abbrev main_v30 : Ref sig .tc := ⟨.hbm, 83, rfl⟩
abbrev main_call8_v0 : Ref sig .tc := ⟨.hbm, 84, rfl⟩
abbrev main_c_11 : Ref sig .tc := ⟨.hbm, 85, rfl⟩
abbrev main_v32 : Ref sig .tc := ⟨.hbm, 86, rfl⟩
abbrev main_v33 : Ref sig .tc := ⟨.hbm, 87, rfl⟩
abbrev main_c_12 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v2 : Ref sig .tc := ⟨.smem, 0, rfl⟩
abbrev main_v31 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_scratch0 : Ref sig .tc := ⟨.vmem, 13, rfl⟩
abbrev cc1_stg2_0 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 3], ![false, false]⟩

abbrev pre1 : Pipeline.Prefetch sig := ⟨2, ![main_v2.idx, main_v31.idx], fun | 0 => main_v2.names | 1 => main_v31.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_off2 (i : grid1.Coords) : Fin 1 → Nat :=
  let arg1 : BitVec 32 := BitVec.ofNat 32 (i 1).val
  let v0 : Index := Scalar.indexCast arg1
  ![v0.toNat]
def k1_off3 (i : grid1.Coords) : Fin 1 → Nat :=
  let arg1 : BitVec 32 := BitVec.ofNat 32 (i 1).val
  let c1_i32 : BitVec 32 := 1#32
  let v2 : BitVec 32 := Scalar.addi arg1 c1_i32
  let v3 : Index := Scalar.indexCast v2
  ![v3.toNat]
@[reducible] def k1_t1_loop (v1 : BitVec 32) (v4 : BitVec 32) : Scf.Loop 32 :=
  let c0_i32_12 : BitVec 32 := 0#32
  let v23 : BitVec 1 := Scalar.cmpi .sgt v4 v1
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_14 : BitVec 32 := 1#32
  ⟨c0_i32_12, v41, c1_i32_14⟩

def k1_mult1 (v1 : BitVec 32) (v4 : BitVec 32) (k1_t1 : Fin (k1_t1_loop v1 v4).trips) : BitVec 32 :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  v44
def k1_off4 (v1 : BitVec 32) (v4 : BitVec 32) (k1_t1 : Fin (k1_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v46 : Index := Scalar.indexCast v45
  let c0_17 : Index := 0#32
  ![v46.toNat, 0]
def k1_off5 (v1 : BitVec 32) (v4 : BitVec 32) (k1_t1 : Fin (k1_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v55 : Index := Scalar.indexCast v45
  let c2048 : Index := 2048#32
  ![v55.toNat, 2048]
def k1_off6 (v1 : BitVec 32) (v4 : BitVec 32) (k1_t1 : Fin (k1_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v66 : Index := Scalar.indexCast v45
  let c4096 : Index := 4096#32
  ![v66.toNat, 4096]
def k1_off7 (v1 : BitVec 32) (v4 : BitVec 32) (k1_t1 : Fin (k1_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v77 : Index := Scalar.indexCast v45
  let c6144 : Index := 6144#32
  ![v77.toNat, 6144]
def k1_off8 (v1 : BitVec 32) (v4 : BitVec 32) (k1_t1 : Fin (k1_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v88 : Index := Scalar.indexCast v45
  let c8192 : Index := 8192#32
  ![v88.toNat, 8192]
def k1_off9 (v1 : BitVec 32) (v4 : BitVec 32) (k1_t1 : Fin (k1_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v99 : Index := Scalar.indexCast v45
  let c10240 : Index := 10240#32
  ![v99.toNat, 10240]
def k1_off10 (v1 : BitVec 32) (v4 : BitVec 32) (k1_t1 : Fin (k1_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v110 : Index := Scalar.indexCast v45
  let c12288 : Index := 12288#32
  ![v110.toNat, 12288]
def k1_off11 (v1 : BitVec 32) (v4 : BitVec 32) (k1_t1 : Fin (k1_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v121 : Index := Scalar.indexCast v45
  let c14336 : Index := 14336#32
  ![v121.toNat, 14336]
def k1_off12 (v1 : BitVec 32) (v4 : BitVec 32) (k1_t1 : Fin (k1_t1_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let c1_i32_14 : BitVec 32 := 1#32
  let arg10 : BitVec 32 := Scf.iv c0_i32_12 c1_i32_14 k1_t1
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v140 : Index := Scalar.indexCast v45
  let c0_79 : Index := 0#32
  ![v140.toNat, 0]
@[reducible] def k1_t2_loop (v1 : BitVec 32) (v4 : BitVec 32) : Scf.Loop 32 :=
  let c0_i32_12 : BitVec 32 := 0#32
  let v23 : BitVec 1 := Scalar.cmpi .sgt v4 v1
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let v38 : BitVec 32 := Scalar.addi c0_i32_12 v37
  let c1_i32_15 : BitVec 32 := 1#32
  ⟨v41, v38, c1_i32_15⟩
def k1_mult2 (v1 : BitVec 32) (v4 : BitVec 32) (k1_t2 : Fin (k1_t2_loop v1 v4).trips) : BitVec 32 :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  v44
def k1_off13 (v1 : BitVec 32) (v4 : BitVec 32) (k1_t2 : Fin (k1_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v46 : Index := Scalar.indexCast v45
  let c0_17 : Index := 0#32
  ![v46.toNat, 0]
def k1_off14 (v1 : BitVec 32) (v4 : BitVec 32) (k1_t2 : Fin (k1_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v55 : Index := Scalar.indexCast v45
  let c2048 : Index := 2048#32
  ![v55.toNat, 2048]
def k1_off15 (v1 : BitVec 32) (v4 : BitVec 32) (k1_t2 : Fin (k1_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v66 : Index := Scalar.indexCast v45
  let c4096 : Index := 4096#32
  ![v66.toNat, 4096]
def k1_off16 (v1 : BitVec 32) (v4 : BitVec 32) (k1_t2 : Fin (k1_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v77 : Index := Scalar.indexCast v45
  let c6144 : Index := 6144#32
  ![v77.toNat, 6144]
def k1_off17 (v1 : BitVec 32) (v4 : BitVec 32) (k1_t2 : Fin (k1_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v88 : Index := Scalar.indexCast v45
  let c8192 : Index := 8192#32
  ![v88.toNat, 8192]
def k1_off18 (v1 : BitVec 32) (v4 : BitVec 32) (k1_t2 : Fin (k1_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v99 : Index := Scalar.indexCast v45
  let c10240 : Index := 10240#32
  ![v99.toNat, 10240]
def k1_off19 (v1 : BitVec 32) (v4 : BitVec 32) (k1_t2 : Fin (k1_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v110 : Index := Scalar.indexCast v45
  let c12288 : Index := 12288#32
  ![v110.toNat, 12288]
def k1_off20 (v1 : BitVec 32) (v4 : BitVec 32) (k1_t2 : Fin (k1_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v121 : Index := Scalar.indexCast v45
  let c14336 : Index := 14336#32
  ![v121.toNat, 14336]
def k1_off21 (v1 : BitVec 32) (v4 : BitVec 32) (k1_t2 : Fin (k1_t2_loop v1 v4).trips) : Fin 2 → Nat :=
  let c0_i32 : BitVec 32 := 0#32
  let v6 : BitVec 1 := Scalar.cmpi .sgt v1 c0_i32
  let v7 : BitVec 32 := Scalar.extui v6
  let c0_i32_0 : BitVec 32 := 0#32
  let v8 : BitVec 1 := Scalar.cmpi .slt v1 c0_i32_0
  let v9 : BitVec 32 := Scalar.extui v8
  let v10 : BitVec 32 := Scalar.subi v7 v9
  let c32_i32 : BitVec 32 := 32#32
  let c0_i32_1 : BitVec 32 := 0#32
  let v11 : BitVec 1 := Scalar.cmpi .sgt c32_i32 c0_i32_1
  let v12 : BitVec 32 := Scalar.extui v11
  let c0_i32_2 : BitVec 32 := 0#32
  let v13 : BitVec 1 := Scalar.cmpi .slt c32_i32 c0_i32_2
  let v14 : BitVec 32 := Scalar.extui v13
  let v15 : BitVec 32 := Scalar.subi v12 v14
  let v16 : BitVec 1 := Scalar.cmpi .ne v10 v15
  let v17 : BitVec 32 := Scalar.remsi v1 c32_i32
  let c0_i32_3 : BitVec 32 := 0#32
  let v18 : BitVec 1 := Scalar.cmpi .ne v17 c0_i32_3
  let v19 : BitVec 1 := Scalar.andi v16 v18
  let v5 : BitVec 32 := Scalar.divsi v1 c32_i32
  let c1_i32_4 : BitVec 32 := 1#32
  let v20 : BitVec 32 := Scalar.subi v5 c1_i32_4
  let v21 : BitVec 32 := Scalar.select v19 v20 v5
  let c32_i32_5 : BitVec 32 := 32#32
  let v22 : BitVec 32 := Scalar.muli v21 c32_i32_5
  let c0_i32_12 : BitVec 32 := 0#32
  let v23 : BitVec 1 := Scalar.cmpi .sgt v4 v1
  let v24 : BitVec 32 := Scalar.subi v4 v22
  let c255_i32 : BitVec 32 := 255#32
  let v25 : BitVec 32 := Scalar.addi v24 c255_i32
  let c256_i32 : BitVec 32 := 256#32
  let v26 : BitVec 32 := Scalar.divsi v25 c256_i32
  let c0_i32_6 : BitVec 32 := 0#32
  let v27 : BitVec 32 := Scalar.select v23 v26 c0_i32_6
  let v37 : BitVec 32 := Scalar.subi v27 c0_i32_12
  let c1_i32_13 : BitVec 32 := 1#32
  let v39 : BitVec 32 := Scalar.divsi v37 c1_i32_13
  let v40 : BitVec 32 := Scalar.muli v39 c1_i32_13
  let v41 : BitVec 32 := Scalar.addi c0_i32_12 v40
  let c1_i32_15 : BitVec 32 := 1#32
  let arg10 : BitVec 32 := Scf.iv v41 c1_i32_15 k1_t2
  let c256_i32_16 : BitVec 32 := 256#32
  let v42 : BitVec 32 := Scalar.muli arg10 c256_i32_16
  let v43 : BitVec 32 := Scalar.addi v22 v42
  let c768_i32 : BitVec 32 := 768#32
  let v44 : BitVec 32 := Scalar.minsi v43 c768_i32
  let v45 : BitVec 32 := v44
  let v140 : Index := Scalar.indexCast v45
  let c0_79 : Index := 0#32
  ![v140.toNat, 0]

def k1_chk1 (v1 : BitVec 32) (v4 : BitVec 32) : Prop :=
  ((k1_t1_loop v1 v4).OK) ∧
  (∀ k1_t1 : Fin (k1_t1_loop v1 v4).trips, 32 ∣ (k1_mult1 v1 v4 k1_t1).toNat) ∧
  (∀ k1_t1 : Fin (k1_t1_loop v1 v4).trips, ∀ a, (k1_off4 v1 v4 k1_t1) a + S256x2048.size a ≤ S1024x16384.size a) ∧
  (∀ k1_t1 : Fin (k1_t1_loop v1 v4).trips, ∀ a, (k1_off5 v1 v4 k1_t1) a + S256x2048.size a ≤ S1024x16384.size a) ∧
  (∀ k1_t1 : Fin (k1_t1_loop v1 v4).trips, ∀ a, (k1_off6 v1 v4 k1_t1) a + S256x2048.size a ≤ S1024x16384.size a) ∧
  (∀ k1_t1 : Fin (k1_t1_loop v1 v4).trips, ∀ a, (k1_off7 v1 v4 k1_t1) a + S256x2048.size a ≤ S1024x16384.size a) ∧
  (∀ k1_t1 : Fin (k1_t1_loop v1 v4).trips, ∀ a, (k1_off8 v1 v4 k1_t1) a + S256x2048.size a ≤ S1024x16384.size a) ∧
  (∀ k1_t1 : Fin (k1_t1_loop v1 v4).trips, ∀ a, (k1_off9 v1 v4 k1_t1) a + S256x2048.size a ≤ S1024x16384.size a) ∧
  (∀ k1_t1 : Fin (k1_t1_loop v1 v4).trips, ∀ a, (k1_off10 v1 v4 k1_t1) a + S256x2048.size a ≤ S1024x16384.size a) ∧
  (∀ k1_t1 : Fin (k1_t1_loop v1 v4).trips, ∀ a, (k1_off11 v1 v4 k1_t1) a + S256x2048.size a ≤ S1024x16384.size a) ∧
  (∀ k1_t1 : Fin (k1_t1_loop v1 v4).trips, ∀ a, (k1_off12 v1 v4 k1_t1) a + S256x512.size a ≤ S1024x512.size a) ∧
  (∀ k1_t1 : Fin (k1_t1_loop v1 v4).trips, ∀ (hinb : ∀ a, (k1_off12 v1 v4 k1_t1) a + S256x512.size a ≤ S1024x512.size a), (Rect.unit (s := S1024x512) (k1_off12 v1 v4 k1_t1) S256x512.size hinb).PackedRows (EltTy.packing .bf16)) ∧
  ((k1_t2_loop v1 v4).OK) ∧
  (∀ k1_t2 : Fin (k1_t2_loop v1 v4).trips, 32 ∣ (k1_mult2 v1 v4 k1_t2).toNat) ∧
  (∀ k1_t2 : Fin (k1_t2_loop v1 v4).trips, ∀ a, (k1_off13 v1 v4 k1_t2) a + S256x2048.size a ≤ S1024x16384.size a) ∧
  (∀ k1_t2 : Fin (k1_t2_loop v1 v4).trips, ∀ a, (k1_off14 v1 v4 k1_t2) a + S256x2048.size a ≤ S1024x16384.size a) ∧
  (∀ k1_t2 : Fin (k1_t2_loop v1 v4).trips, ∀ a, (k1_off15 v1 v4 k1_t2) a + S256x2048.size a ≤ S1024x16384.size a) ∧
  (∀ k1_t2 : Fin (k1_t2_loop v1 v4).trips, ∀ a, (k1_off16 v1 v4 k1_t2) a + S256x2048.size a ≤ S1024x16384.size a) ∧
  (∀ k1_t2 : Fin (k1_t2_loop v1 v4).trips, ∀ a, (k1_off17 v1 v4 k1_t2) a + S256x2048.size a ≤ S1024x16384.size a) ∧
  (∀ k1_t2 : Fin (k1_t2_loop v1 v4).trips, ∀ a, (k1_off18 v1 v4 k1_t2) a + S256x2048.size a ≤ S1024x16384.size a) ∧
  (∀ k1_t2 : Fin (k1_t2_loop v1 v4).trips, ∀ a, (k1_off19 v1 v4 k1_t2) a + S256x2048.size a ≤ S1024x16384.size a) ∧
  (∀ k1_t2 : Fin (k1_t2_loop v1 v4).trips, ∀ a, (k1_off20 v1 v4 k1_t2) a + S256x2048.size a ≤ S1024x16384.size a) ∧
  (∀ k1_t2 : Fin (k1_t2_loop v1 v4).trips, ∀ a, (k1_off21 v1 v4 k1_t2) a + S256x512.size a ≤ S1024x512.size a) ∧
  (∀ k1_t2 : Fin (k1_t2_loop v1 v4).trips, ∀ (hinb : ∀ a, (k1_off21 v1 v4 k1_t2) a + S256x512.size a ≤ S1024x512.size a), (Rect.unit (s := S1024x512) (k1_off21 v1 v4 k1_t2) S256x512.size hinb).PackedRows (EltTy.packing .bf16))
theorem k1_t1_ok : ∀ (v1 : BitVec 32) (v4 : BitVec 32) (k1_hw1 : k1_chk1 v1 v4), (k1_t1_loop v1 v4).OK := fun v1 v4 k1_hw1 => k1_hw1.1
theorem k1_mult1_dvd : ∀ (v1 : BitVec 32) (v4 : BitVec 32) (k1_hw1 : k1_chk1 v1 v4) (k1_t1 : Fin (k1_t1_loop v1 v4).trips), 32 ∣ (k1_mult1 v1 v4 k1_t1).toNat := fun v1 v4 k1_hw1 k1_t1 => k1_hw1.2.1 k1_t1
theorem k1_off4_inb : ∀ (v1 : BitVec 32) (v4 : BitVec 32) (k1_hw1 : k1_chk1 v1 v4) (k1_t1 : Fin (k1_t1_loop v1 v4).trips), ∀ a, (k1_off4 v1 v4 k1_t1) a + S256x2048.size a ≤ S1024x16384.size a := fun v1 v4 k1_hw1 k1_t1 => k1_hw1.2.2.1 k1_t1
theorem k1_off5_inb : ∀ (v1 : BitVec 32) (v4 : BitVec 32) (k1_hw1 : k1_chk1 v1 v4) (k1_t1 : Fin (k1_t1_loop v1 v4).trips), ∀ a, (k1_off5 v1 v4 k1_t1) a + S256x2048.size a ≤ S1024x16384.size a := fun v1 v4 k1_hw1 k1_t1 => k1_hw1.2.2.2.1 k1_t1
theorem k1_off6_inb : ∀ (v1 : BitVec 32) (v4 : BitVec 32) (k1_hw1 : k1_chk1 v1 v4) (k1_t1 : Fin (k1_t1_loop v1 v4).trips), ∀ a, (k1_off6 v1 v4 k1_t1) a + S256x2048.size a ≤ S1024x16384.size a := fun v1 v4 k1_hw1 k1_t1 => k1_hw1.2.2.2.2.1 k1_t1
theorem k1_off7_inb : ∀ (v1 : BitVec 32) (v4 : BitVec 32) (k1_hw1 : k1_chk1 v1 v4) (k1_t1 : Fin (k1_t1_loop v1 v4).trips), ∀ a, (k1_off7 v1 v4 k1_t1) a + S256x2048.size a ≤ S1024x16384.size a := fun v1 v4 k1_hw1 k1_t1 => k1_hw1.2.2.2.2.2.1 k1_t1
theorem k1_off8_inb : ∀ (v1 : BitVec 32) (v4 : BitVec 32) (k1_hw1 : k1_chk1 v1 v4) (k1_t1 : Fin (k1_t1_loop v1 v4).trips), ∀ a, (k1_off8 v1 v4 k1_t1) a + S256x2048.size a ≤ S1024x16384.size a := fun v1 v4 k1_hw1 k1_t1 => k1_hw1.2.2.2.2.2.2.1 k1_t1
theorem k1_off9_inb : ∀ (v1 : BitVec 32) (v4 : BitVec 32) (k1_hw1 : k1_chk1 v1 v4) (k1_t1 : Fin (k1_t1_loop v1 v4).trips), ∀ a, (k1_off9 v1 v4 k1_t1) a + S256x2048.size a ≤ S1024x16384.size a := fun v1 v4 k1_hw1 k1_t1 => k1_hw1.2.2.2.2.2.2.2.1 k1_t1
theorem k1_off10_inb : ∀ (v1 : BitVec 32) (v4 : BitVec 32) (k1_hw1 : k1_chk1 v1 v4) (k1_t1 : Fin (k1_t1_loop v1 v4).trips), ∀ a, (k1_off10 v1 v4 k1_t1) a + S256x2048.size a ≤ S1024x16384.size a := fun v1 v4 k1_hw1 k1_t1 => k1_hw1.2.2.2.2.2.2.2.2.1 k1_t1
theorem k1_off11_inb : ∀ (v1 : BitVec 32) (v4 : BitVec 32) (k1_hw1 : k1_chk1 v1 v4) (k1_t1 : Fin (k1_t1_loop v1 v4).trips), ∀ a, (k1_off11 v1 v4 k1_t1) a + S256x2048.size a ≤ S1024x16384.size a := fun v1 v4 k1_hw1 k1_t1 => k1_hw1.2.2.2.2.2.2.2.2.2.1 k1_t1
theorem k1_off12_inb : ∀ (v1 : BitVec 32) (v4 : BitVec 32) (k1_hw1 : k1_chk1 v1 v4) (k1_t1 : Fin (k1_t1_loop v1 v4).trips), ∀ a, (k1_off12 v1 v4 k1_t1) a + S256x512.size a ≤ S1024x512.size a := fun v1 v4 k1_hw1 k1_t1 => k1_hw1.2.2.2.2.2.2.2.2.2.2.1 k1_t1
theorem k1_off12_packedbf16 : ∀ (v1 : BitVec 32) (v4 : BitVec 32) (k1_hw1 : k1_chk1 v1 v4) (k1_t1 : Fin (k1_t1_loop v1 v4).trips), (Rect.unit (s := S1024x512) (k1_off12 v1 v4 k1_t1) S256x512.size (k1_off12_inb v1 v4 k1_hw1 k1_t1)).PackedRows (EltTy.packing .bf16) := fun v1 v4 k1_hw1 k1_t1 => k1_hw1.2.2.2.2.2.2.2.2.2.2.2.1 k1_t1 (k1_off12_inb v1 v4 k1_hw1 k1_t1)
theorem k1_t2_ok : ∀ (v1 : BitVec 32) (v4 : BitVec 32) (k1_hw1 : k1_chk1 v1 v4), (k1_t2_loop v1 v4).OK := fun v1 v4 k1_hw1 => k1_hw1.2.2.2.2.2.2.2.2.2.2.2.2.1
theorem k1_mult2_dvd : ∀ (v1 : BitVec 32) (v4 : BitVec 32) (k1_hw1 : k1_chk1 v1 v4) (k1_t2 : Fin (k1_t2_loop v1 v4).trips), 32 ∣ (k1_mult2 v1 v4 k1_t2).toNat := fun v1 v4 k1_hw1 k1_t2 => k1_hw1.2.2.2.2.2.2.2.2.2.2.2.2.2.1 k1_t2
theorem k1_off13_inb : ∀ (v1 : BitVec 32) (v4 : BitVec 32) (k1_hw1 : k1_chk1 v1 v4) (k1_t2 : Fin (k1_t2_loop v1 v4).trips), ∀ a, (k1_off13 v1 v4 k1_t2) a + S256x2048.size a ≤ S1024x16384.size a := fun v1 v4 k1_hw1 k1_t2 => k1_hw1.2.2.2.2.2.2.2.2.2.2.2.2.2.2.1 k1_t2
theorem k1_off14_inb : ∀ (v1 : BitVec 32) (v4 : BitVec 32) (k1_hw1 : k1_chk1 v1 v4) (k1_t2 : Fin (k1_t2_loop v1 v4).trips), ∀ a, (k1_off14 v1 v4 k1_t2) a + S256x2048.size a ≤ S1024x16384.size a := fun v1 v4 k1_hw1 k1_t2 => k1_hw1.2.2.2.2.2.2.2.2.2.2.2.2.2.2.2.1 k1_t2
theorem k1_off15_inb : ∀ (v1 : BitVec 32) (v4 : BitVec 32) (k1_hw1 : k1_chk1 v1 v4) (k1_t2 : Fin (k1_t2_loop v1 v4).trips), ∀ a, (k1_off15 v1 v4 k1_t2) a + S256x2048.size a ≤ S1024x16384.size a := fun v1 v4 k1_hw1 k1_t2 => k1_hw1.2.2.2.2.2.2.2.2.2.2.2.2.2.2.2.2.1 k1_t2
theorem k1_off16_inb : ∀ (v1 : BitVec 32) (v4 : BitVec 32) (k1_hw1 : k1_chk1 v1 v4) (k1_t2 : Fin (k1_t2_loop v1 v4).trips), ∀ a, (k1_off16 v1 v4 k1_t2) a + S256x2048.size a ≤ S1024x16384.size a := fun v1 v4 k1_hw1 k1_t2 => k1_hw1.2.2.2.2.2.2.2.2.2.2.2.2.2.2.2.2.2.1 k1_t2
theorem k1_off17_inb : ∀ (v1 : BitVec 32) (v4 : BitVec 32) (k1_hw1 : k1_chk1 v1 v4) (k1_t2 : Fin (k1_t2_loop v1 v4).trips), ∀ a, (k1_off17 v1 v4 k1_t2) a + S256x2048.size a ≤ S1024x16384.size a := fun v1 v4 k1_hw1 k1_t2 => k1_hw1.2.2.2.2.2.2.2.2.2.2.2.2.2.2.2.2.2.2.1 k1_t2
theorem k1_off18_inb : ∀ (v1 : BitVec 32) (v4 : BitVec 32) (k1_hw1 : k1_chk1 v1 v4) (k1_t2 : Fin (k1_t2_loop v1 v4).trips), ∀ a, (k1_off18 v1 v4 k1_t2) a + S256x2048.size a ≤ S1024x16384.size a := fun v1 v4 k1_hw1 k1_t2 => k1_hw1.2.2.2.2.2.2.2.2.2.2.2.2.2.2.2.2.2.2.2.1 k1_t2
theorem k1_off19_inb : ∀ (v1 : BitVec 32) (v4 : BitVec 32) (k1_hw1 : k1_chk1 v1 v4) (k1_t2 : Fin (k1_t2_loop v1 v4).trips), ∀ a, (k1_off19 v1 v4 k1_t2) a + S256x2048.size a ≤ S1024x16384.size a := fun v1 v4 k1_hw1 k1_t2 => k1_hw1.2.2.2.2.2.2.2.2.2.2.2.2.2.2.2.2.2.2.2.2.1 k1_t2
theorem k1_off20_inb : ∀ (v1 : BitVec 32) (v4 : BitVec 32) (k1_hw1 : k1_chk1 v1 v4) (k1_t2 : Fin (k1_t2_loop v1 v4).trips), ∀ a, (k1_off20 v1 v4 k1_t2) a + S256x2048.size a ≤ S1024x16384.size a := fun v1 v4 k1_hw1 k1_t2 => k1_hw1.2.2.2.2.2.2.2.2.2.2.2.2.2.2.2.2.2.2.2.2.2.1 k1_t2
theorem k1_off21_inb : ∀ (v1 : BitVec 32) (v4 : BitVec 32) (k1_hw1 : k1_chk1 v1 v4) (k1_t2 : Fin (k1_t2_loop v1 v4).trips), ∀ a, (k1_off21 v1 v4 k1_t2) a + S256x512.size a ≤ S1024x512.size a := fun v1 v4 k1_hw1 k1_t2 => k1_hw1.2.2.2.2.2.2.2.2.2.2.2.2.2.2.2.2.2.2.2.2.2.2.1 k1_t2
theorem k1_off21_packedbf16 : ∀ (v1 : BitVec 32) (v4 : BitVec 32) (k1_hw1 : k1_chk1 v1 v4) (k1_t2 : Fin (k1_t2_loop v1 v4).trips), (Rect.unit (s := S1024x512) (k1_off21 v1 v4 k1_t2) S256x512.size (k1_off21_inb v1 v4 k1_hw1 k1_t2)).PackedRows (EltTy.packing .bf16) := fun v1 v4 k1_hw1 k1_t2 => k1_hw1.2.2.2.2.2.2.2.2.2.2.2.2.2.2.2.2.2.2.2.2.2.2.2 k1_t2 (k1_off21_inb v1 v4 k1_hw1 k1_t2)

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (k1_off1_inb : ∀ i : grid1.Coords, ∀ a, (k1_off1 i) a + S1.size a ≤ S3.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k1_off1_inb i)) numel1_S1
  let c0_i32 : BitVec 32 := 0#32
  let c0_i32_0 : BitVec 32 := 0#32
  ![v1.toNat, c0_i32.toNat, arg0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (k1_off1_inb : ∀ i : grid1.Coords, ∀ a, (k1_off1 i) a + S1.size a ≤ S3.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k1_off1_inb i)) numel1_S1
  let c0_i32 : BitVec 32 := 0#32
  let c0_i32_0 : BitVec 32 := 0#32
  ![v1.toNat, c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S1024x16384 .fp8e4m3 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x16384x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .smem S3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]
-- ==== ReferenceIdeal.lean ====
abbrev S1024x16384 : Shape := ⟨2, ![1024, 16384]⟩
abbrev S3 : Shape := ⟨1, ![3]⟩
abbrev S3x16384x6144 : Shape := ⟨3, ![3, 16384, 6144]⟩
abbrev S3x6144 : Shape := ⟨2, ![3, 6144]⟩
abbrev S1 : Shape := ⟨1, ![1]⟩
abbrev S2 : Shape := ⟨1, ![2]⟩
abbrev S_ : Shape := ⟨0, ![]⟩
abbrev S1024 : Shape := ⟨1, ![1024]⟩
abbrev S3x1 : Shape := ⟨2, ![3, 1]⟩
abbrev S1024x1 : Shape := ⟨2, ![1024, 1]⟩
abbrev S1x1 : Shape := ⟨2, ![1, 1]⟩
abbrev S1x1024 : Shape := ⟨2, ![1, 1024]⟩
abbrev S3x1024 : Shape := ⟨2, ![3, 1024]⟩
abbrev S1024x6144 : Shape := ⟨2, ![1024, 6144]⟩
abbrev S3x1024x1 : Shape := ⟨3, ![3, 1024, 1]⟩
abbrev S1x16384x6144 : Shape := ⟨3, ![1, 16384, 6144]⟩
abbrev S16384x6144 : Shape := ⟨2, ![16384, 6144]⟩
abbrev S1x1024x1 : Shape := ⟨3, ![1, 1024, 1]⟩

abbrev nBuf : Space → Nat
  | .hbm => 95
  | .vmem => 6
  | .smem => 0
  | _ => 0

abbrev bufTy : (tb : Table) → Fin (tcTables nBuf tb) → BufTy
  | .hbm, ⟨0, _⟩ => ⟨S1024x16384, .bf16⟩
  | .hbm, ⟨1, _⟩ => ⟨S3, .i32⟩
  | .hbm, ⟨2, _⟩ => ⟨S3, .f32⟩
  | .hbm, ⟨3, _⟩ => ⟨S3x16384x6144, .fp8e4m3⟩
  | .hbm, ⟨4, _⟩ => ⟨S3x6144, .f32⟩
  | .hbm, ⟨5, _⟩ => ⟨S3, .i32⟩
  | .hbm, ⟨6, _⟩ => ⟨S1, .i32⟩
  | .hbm, ⟨7, _⟩ => ⟨S2, .i32⟩
  | .hbm, ⟨8, _⟩ => ⟨S3, .i32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S3, .i32⟩
  | .hbm, ⟨13, _⟩ => ⟨S_, .i32⟩
  | .hbm, ⟨14, _⟩ => ⟨S_, .i32⟩
  | .hbm, ⟨15, _⟩ => ⟨S3, .i32⟩
  | .hbm, ⟨16, _⟩ => ⟨S_, .i32⟩
  | .hbm, ⟨17, _⟩ => ⟨S1024, .i32⟩
  | .hbm, ⟨18, _⟩ => ⟨S_, .i32⟩
  | .hbm, ⟨19, _⟩ => ⟨S3, .i32⟩
  | .hbm, ⟨20, _⟩ => ⟨S3, .i1⟩
  | .hbm, ⟨21, _⟩ => ⟨S_, .i32⟩
  | .hbm, ⟨22, _⟩ => ⟨S3, .i32⟩
  | .hbm, ⟨23, _⟩ => ⟨S3, .i32⟩
  | .hbm, ⟨24, _⟩ => ⟨S3, .i32⟩
  | .hbm, ⟨25, _⟩ => ⟨S3x1, .i32⟩
  | .hbm, ⟨26, _⟩ => ⟨S_, .i32⟩
  | .hbm, ⟨27, _⟩ => ⟨S3, .i32⟩
  | .hbm, ⟨28, _⟩ => ⟨S1024, .i32⟩
  | .hbm, ⟨29, _⟩ => ⟨S_, .i32⟩
  | .hbm, ⟨30, _⟩ => ⟨S_, .i32⟩
  | .hbm, ⟨31, _⟩ => ⟨S1024, .i32⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S1024x1, .i32⟩
  | .hbm, ⟨43, _⟩ => ⟨S1, .i32⟩
  | .hbm, ⟨44, _⟩ => ⟨S_, .i32⟩
  | .hbm, ⟨45, _⟩ => ⟨S1024x1, .i32⟩
  | .hbm, ⟨46, _⟩ => ⟨S1024x1, .i1⟩
  | .hbm, ⟨47, _⟩ => ⟨S1x1, .i32⟩
  | .hbm, ⟨48, _⟩ => ⟨S1024x1, .i32⟩
  | .hbm, ⟨49, _⟩ => ⟨S1024x1, .i1⟩
  | .hbm, ⟨50, _⟩ => ⟨S1024x1, .i1⟩
  | .hbm, ⟨51, _⟩ => ⟨S_, .i1⟩
  | .hbm, ⟨52, _⟩ => ⟨S1024, .i1⟩
  | .hbm, ⟨53, _⟩ => ⟨S1024, .i32⟩
  | .hbm, ⟨54, _⟩ => ⟨S_, .i32⟩
  | .hbm, ⟨55, _⟩ => ⟨S1024, .i32⟩
  | .hbm, ⟨56, _⟩ => ⟨S1024, .i32⟩
  | .hbm, ⟨57, _⟩ => ⟨S_, .i32⟩
  | .hbm, ⟨58, _⟩ => ⟨S1024, .i32⟩
  | .hbm, ⟨59, _⟩ => ⟨S1024, .i1⟩
  | .hbm, ⟨60, _⟩ => ⟨S_, .i32⟩
  | .hbm, ⟨61, _⟩ => ⟨S1024, .i32⟩
  | .hbm, ⟨62, _⟩ => ⟨S1024, .i32⟩
  | .hbm, ⟨63, _⟩ => ⟨S1024, .i32⟩
  | .hbm, ⟨64, _⟩ => ⟨S1024x1, .i32⟩
  | .hbm, ⟨65, _⟩ => ⟨S1024, .f32⟩
  | .hbm, ⟨66, _⟩ => ⟨S_, .i32⟩
  | .hbm, ⟨67, _⟩ => ⟨S_, .i32⟩
  | .hbm, ⟨68, _⟩ => ⟨S3, .i32⟩
  | .hbm, ⟨69, _⟩ => ⟨S3, .i32⟩
  | .hbm, ⟨70, _⟩ => ⟨S1024, .i32⟩
  | .hbm, ⟨71, _⟩ => ⟨S3x1, .i32⟩
  | .hbm, ⟨72, _⟩ => ⟨S1x1024, .i32⟩
  | .hbm, ⟨73, _⟩ => ⟨S3x1024, .i32⟩
  | .hbm, ⟨74, _⟩ => ⟨S3x1024, .i32⟩
  | .hbm, ⟨75, _⟩ => ⟨S3x1024, .i1⟩
  | .hbm, ⟨76, _⟩ => ⟨S1x1024, .i32⟩
  | .hbm, ⟨77, _⟩ => ⟨S3x1, .i32⟩
  | .hbm, ⟨78, _⟩ => ⟨S3x1024, .i32⟩
  | .hbm, ⟨79, _⟩ => ⟨S3x1024, .i32⟩
  | .hbm, ⟨80, _⟩ => ⟨S3x1024, .i1⟩
  | .hbm, ⟨81, _⟩ => ⟨S3x1024, .i1⟩
  | .hbm, ⟨82, _⟩ => ⟨S3x1024, .i32⟩
  | .hbm, ⟨83, _⟩ => ⟨S1024x1, .f32⟩
  | .hbm, ⟨84, _⟩ => ⟨S_, .i32⟩
  | .hbm, ⟨85, _⟩ => ⟨S1024, .i32⟩
  | .hbm, ⟨86, _⟩ => ⟨S1024, .i1⟩
  | .hbm, ⟨87, _⟩ => ⟨S_, .i32⟩
  | .hbm, ⟨88, _⟩ => ⟨S1024, .i32⟩
  | .hbm, ⟨89, _⟩ => ⟨S1024, .i32⟩
  | .hbm, ⟨90, _⟩ => ⟨S1024, .i32⟩
  | .hbm, ⟨91, _⟩ => ⟨S1024x1, .i32⟩
  | .hbm, ⟨92, _⟩ => ⟨S1024x6144, .f32⟩
  | .hbm, ⟨93, _⟩ => ⟨S3x1024x1, .i32⟩
  | .hbm, ⟨94, _⟩ => ⟨S1024x6144, .bf16⟩
  | .local _ .vmem, ⟨0, _⟩ => ⟨S1024x16384, .bf16⟩
  | .local _ .vmem, ⟨1, _⟩ => ⟨S1024x1, .f32⟩
  | .local _ .vmem, ⟨2, _⟩ => ⟨S3x16384x6144, .fp8e4m3⟩
  | .local _ .vmem, ⟨3, _⟩ => ⟨S1024x6144, .f32⟩
  | .local _ .vmem, ⟨4, _⟩ => ⟨S3x1024x1, .i32⟩
  | .local _ .vmem, ⟨5, _⟩ => ⟨S1024x6144, .bf16⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_c_6 : Ref sig .tc := ⟨.hbm, 57, rfl⟩
abbrev main_v18 : Ref sig .tc := ⟨.hbm, 58, rfl⟩
abbrev main_v19 : Ref sig .tc := ⟨.hbm, 59, rfl⟩
abbrev main_c_7 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_call4_call0_c : Ref sig .tc := ⟨.hbm, 66, rfl⟩
abbrev main_call4_call0_v0 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_8 : Ref sig .tc := ⟨.hbm, 84, rfl⟩
abbrev main_v41 : Ref sig .tc := ⟨.hbm, 85, rfl⟩
abbrev main_v42 : Ref sig .tc := ⟨.hbm, 86, rfl⟩
abbrev main_c_9 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x16384x6144 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Quantise.lean ====
/- The quantising call: what one grid point leaves in its output block (`codesBlock`), the triple of the
   printed body, and the pipeline's proof data over any contents `W` of the core's buffers at the region's entry. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Tactic

@[expose] public section

set_option maxRecDepth 16384

noncomputable section

namespace Cert.Kernel.Quantise

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-- The rectangle of a whole block of rows, and that of a whole block of row scales. -/
abbrev rows : Rect S32x16384 := Rect.unit (s := S32x16384) ![0, 0] S32x16384.size inb_S32x16384_S32x16384_0_0
/-- The scales of a block of 32 rows. -/
abbrev scales : Rect S32x1 := Rect.unit (s := S32x1) ![0, 0] S32x1.size inb_S32x1_S32x1_0_0

/-- The block of codes the body leaves, of the block of rows and the block of row scales. -/
def codesBlock (x : Vec F S32x16384 .bf16) (s : Vec F S32x1 .f32) : Vec F S32x16384 .fp8e4m3 :=
  View.canon [⟨rows, k0_pay1 (View.ld x rows) (View.ld s scales)⟩]

/-- The one store covers the block. -/
theorem cover (p : Vec F S32x16384 .fp8e4m3) (y : S32x16384.Idx) :
    ∃ pc ∈ ([⟨rows, p⟩] : List (View.Piece (Elt F) S32x16384 .fp8e4m3)), y ∈ pc.1.set :=
  View.cover_of_tiled [⟨rows, p⟩] S32x16384.size (by rfl) y

set_option maxHeartbeats 1000000 in
/-- The quantising body keeps its two inputs and leaves `codesBlock` of them in its output block. -/
theorem sound_kernel (c : Dev nD) (E : Set ℕ) (i : grid0.Coords) (arg1 : Memref sig .tc .vmem S32x16384 .bf16) (harg1 : arg1.IsWhole)
    (arg2 : Memref sig .tc .vmem S32x1 .f32) (harg2 : arg2.IsWhole) (arg3 : Memref sig .tc .vmem S32x16384 .fp8e4m3) (harg3 : arg3.IsWhole)
    (x0 : Vec F S32x16384 .bf16) (x1 : Vec F S32x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (codesBlock x0 x1)) -∗ K ⟨⟩))
      ⊢ wp frame (wpE (defs₀ (F := F)) Variants.none c none) E (cc0_quantise i arg1 harg1 arg2 harg2 arg3 harg3) K := by
  simp only [cc0_quantise_eq_skeleton]; unfold cc0_quantise_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- What the body finds in the rows' window: the array's block. -/
theorem before0_of {c : Dev nD} (dat : Dat τ (Elt F) Unit ℕ (UR sig nD τ) ℕ cfg0 c) (hA : dat.A 0 = W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- What the body finds in the scales' window: the array's block. -/
theorem before1_of {c : Dev nD} (dat : Dat τ (Elt F) Unit ℕ (UR sig nD τ) ℕ cfg0 c) (hA : dat.A 1 = W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The proof data of the quantising pipeline: inputs keep their blocks, the output is `codesBlock` of them. -/
def dat (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => codesBlock (iblk W c 0 t) (iblk W c 1 t)
  Φ _ := Pipeline.scopedRest spec0 c
  q _ := fullShare
  owed _ := 0

/-- Before the region each window's array is what the host left there. -/
theorem A_eq (c : Dev nD) (w : Fin cfg0.W) : (dat W c).A w = W c (Pipeline.arrRef spec0 w) := by
  dsimp only [dat]
/-- The body keeps the rows. -/
theorem after_0 (c : Dev nD) (t : Fin cfg0.N) : (dat W c).after 0 t = iblk W c 0 t := by dsimp only [dat]
/-- The body keeps the scales. -/
theorem after_1 (c : Dev nD) (t : Fin cfg0.N) : (dat W c).after 1 t = iblk W c 1 t := by dsimp only [dat]
/-- The body leaves the codes of the rows at the scales. -/
theorem after_2 (c : Dev nD) (t : Fin cfg0.N) : (dat W c).after 2 t = codesBlock (iblk W c 0 t) (iblk W c 1 t) := by dsimp only [dat]
/-- What the body finds in the rows' window. -/
theorem before_0 (c : Dev nD) (t : Fin cfg0.N) (d) : (dat W c).before 0 t d = iblk W c 0 t :=
  before0_of W (dat W c) (A_eq W c 0) (after_0 W c) t d
/-- What the body finds in the scales' window. -/
theorem before_1 (c : Dev nD) (t : Fin cfg0.N) (d) : (dat W c).before 1 t d = iblk W c 1 t :=
  before1_of W (dat W c) (A_eq W c 1) (after_1 W c) t d

/-- What the body is called with at point `t`, and what it returns. -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d)))
/-- What holds after the body at one grid point. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t))

/-- The body at one grid point, from what it finds to what it leaves. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1]
  rw [show (dat W c).Φ t.succ = (dat W c).Φ t.castSucc from rfl,
    show (dat W c).owesAt () t.succ = (dat W c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk W c 0 t) (iblk W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's definition at one grid point. -/
theorem defs₀_row (t : Fin cfg0.N) :
    defs₀ (F := F) .tc cfg0.body (cfg0.bodyArgs t (cfg0.slots t)) = bodyAt0 t := by
  unfold defs₀; rw [Defs.onTc_tc]

/-- The body obligation of the quantising pipeline, at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.Kernel.Quantise

end
-- ==== Proof.Tile.lean ====
/- One row tile of the grouped product: the sum of the eight dots over chunks of the contracted axis (`acc`), what
   the tile writes over the output block (`tile`), and the tiles of one group in turn (`tiles`). The counted loop of
   the printed body leaves exactly that (`read_tiles`). -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.VecWindow
public import Idealize.ShloMosaic.Lib.Tactic

@[expose] public section

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Pure

variable (x4 : Vec F S1024x16384 .fp8e4m3) (x5 : Vec F S1x16384x512 .fp8e4m3) (v1 v4 : BitVec 32) (hw : k1_chk1 v1 v4)

/-- The accumulator after the eight chunks, for the rows of trip `k`. -/
def acc (k : Fin (k1_t1_loop v1 v4).trips) : FVec F S256x512 .f32 :=
  k1_pay12 (View.ld x4 (Rect.unit (s := S1024x16384) (k1_off11 v1 v4 k) S256x2048.size (k1_off11_inb v1 v4 hw k)))
      (View.ld x5 (Rect.unit (s := S1x16384x512) ![0, 14336, 0] S1x2048x512.size inb_S1x16384x512_S1x2048x512_0_14336_0)) <|
  k1_pay11 (View.ld x4 (Rect.unit (s := S1024x16384) (k1_off10 v1 v4 k) S256x2048.size (k1_off10_inb v1 v4 hw k)))
      (View.ld x5 (Rect.unit (s := S1x16384x512) ![0, 12288, 0] S1x2048x512.size inb_S1x16384x512_S1x2048x512_0_12288_0)) <|
  k1_pay10 (k1_pay9 (View.ld x4 (Rect.unit (s := S1024x16384) (k1_off9 v1 v4 k) S256x2048.size (k1_off9_inb v1 v4 hw k)))
      (View.ld x5 (Rect.unit (s := S1x16384x512) ![0, 10240, 0] S1x2048x512.size inb_S1x16384x512_S1x2048x512_0_10240_0))) <|
  k1_pay8 (View.ld x4 (Rect.unit (s := S1024x16384) (k1_off8 v1 v4 k) S256x2048.size (k1_off8_inb v1 v4 hw k)))
      (View.ld x5 (Rect.unit (s := S1x16384x512) ![0, 8192, 0] S1x2048x512.size inb_S1x16384x512_S1x2048x512_0_8192_0)) <|
  k1_pay7 (View.ld x4 (Rect.unit (s := S1024x16384) (k1_off7 v1 v4 k) S256x2048.size (k1_off7_inb v1 v4 hw k)))
      (View.ld x5 (Rect.unit (s := S1x16384x512) ![0, 6144, 0] S1x2048x512.size inb_S1x16384x512_S1x2048x512_0_6144_0)) <|
  k1_pay6 <|
  k1_pay5 (View.ld x4 (Rect.unit (s := S1024x16384) (k1_off6 v1 v4 k) S256x2048.size (k1_off6_inb v1 v4 hw k)))
      (View.ld x5 (Rect.unit (s := S1x16384x512) ![0, 4096, 0] S1x2048x512.size inb_S1x16384x512_S1x2048x512_0_4096_0)) <|
  k1_pay4 (View.ld x4 (Rect.unit (s := S1024x16384) (k1_off5 v1 v4 k) S256x2048.size (k1_off5_inb v1 v4 hw k)))
      (View.ld x5 (Rect.unit (s := S1x16384x512) ![0, 2048, 0] S1x2048x512.size inb_S1x16384x512_S1x2048x512_0_2048_0)) <|
  k1_pay3 (View.ld x4 (Rect.unit (s := S1024x16384) (k1_off4 v1 v4 k) S256x2048.size (k1_off4_inb v1 v4 hw k)))
      (View.ld x5 (Rect.unit (s := S1x16384x512) ![0, 0, 0] S1x2048x512.size inb_S1x16384x512_S1x2048x512_0_0_0))

/-- What trip `k` stores, of the output block `o` it finds: the scaled accumulator in the group's rows, `o` elsewhere. -/
def stored (v22 : BitVec 32) (v33 : FVec F S1x512 .f32) (c0 : BitVec 32) (k : Fin (k1_t1_loop v1 v4).trips)
    (o : Vec F S1024x512 .bf16) : FVec F S256x512 .bf16 :=
  k1_pay1 v33 (k1_pay13 (F := F) v1 v4 (Scalar.minsi (Scalar.addi v22 (Scalar.muli (Scf.iv c0 1#32 k) 256#32)) 768#32))
    (View.ld o (Rect.unit (s := S1024x512) (k1_off12 v1 v4 k) S256x512.size (k1_off12_inb v1 v4 hw k)))
    (acc x4 x5 v1 v4 hw k)

/-- The output block after trip `k` on the block `o`. -/
def tile (v22 : BitVec 32) (v33 : FVec F S1x512 .f32) (c0 : BitVec 32) (k : Fin (k1_t1_loop v1 v4).trips)
    (o : Vec F S1024x512 .bf16) : Vec F S1024x512 .bf16 :=
  VecWindow.put o (k1_off12 v1 v4 k) S256x512.size (stored x4 x5 v1 v4 hw v22 v33 c0 k o)

/-- The output block after the first `n` trips on the block `o`. -/
def tiles (v22 : BitVec 32) (v33 : FVec F S1x512 .f32) (c0 : BitVec 32) (o : Vec F S1024x512 .bf16) : ℕ → Vec F S1024x512 .bf16
  | 0 => o
  | n + 1 => if h : n < (k1_t1_loop v1 v4).trips then tile x4 x5 v1 v4 hw v22 v33 c0 ⟨n, h⟩ (tiles v22 v33 c0 o n)
      else tiles v22 v33 c0 o n

/-- One row tile more: the tile over what the tiles before it leave. -/
theorem tiles_succ (v22 : BitVec 32) (v33 : FVec F S1x512 .f32) (c0 : BitVec 32) (o : Vec F S1024x512 .bf16) (n : ℕ)
    (h : n < (k1_t1_loop v1 v4).trips) :
    tiles x4 x5 v1 v4 hw v22 v33 c0 o (n + 1) = tile x4 x5 v1 v4 hw v22 v33 c0 ⟨n, h⟩ (tiles x4 x5 v1 v4 hw v22 v33 c0 o n) := by
  rw [tiles, dif_pos h]

end Pure

section Trip

variable (𝒱 : Variants) (c : Dev nD) (bd : Option 𝒱.V) (i : grid1.Coords)
  (arg2 : Memref sig .tc .smem S4 .i32) (harg2 : arg2.IsWhole) (arg3 : Memref sig .tc .smem S3 .i32) (harg3 : arg3.IsWhole)
  (arg4 : Memref sig .tc .vmem S1024x16384 .fp8e4m3) (harg4 : arg4.IsWhole) (arg5 : Memref sig .tc .vmem S1x16384x512 .fp8e4m3) (harg5 : arg5.IsWhole)
  (arg6 : Memref sig .tc .smem S3 .f32) (harg6 : arg6.IsWhole) (arg7 : Memref sig .tc .vmem S1x1x512 .f32) (harg7 : arg7.IsWhole)
  (arg8 : Memref sig .tc .vmem S1024x512 .bf16) (harg8 : arg8.IsWhole) (arg9 : Memref sig .tc .vmem S256x512 .f32) (harg9 : arg9.IsWhole)
  (v1 v4 : Elt F .i32) (hw : k1_chk1 v1 v4) (v22 : BitVec 32) (v33 : FVec F S1x512 .f32) (c0 : BitVec 32)
  (X4 : BufTy.Contents (Elt F) arg4.view.ty) (X5 : BufTy.Contents (Elt F) arg5.view.ty)

set_option maxHeartbeats 400000 in
/-- The one piece a trip writes into the output block is `stored`. -/
theorem trip_pieces (k : Fin (k1_t1_loop v1 v4).trips) (f8 : BufTy.Contents (Elt F) arg8.view.ty) (f9 : BufTy.Contents (Elt F) arg9.view.ty) :
    (trip_k1_t1 (F := F) 𝒱 c bd i arg2 harg2 arg3 harg3 arg4 harg4 arg5 harg5 arg6 harg6 arg7 harg7 arg8 harg8 arg9 harg9 v1 v4 hw v22 v33 c0 X4 X5 k).1 f8 f9
      = [⟨Rect.unit (s := S1024x512) (k1_off12 v1 v4 k) S256x512.size (k1_off12_inb v1 v4 hw k),
          stored (arg4.view.read (Elt F) X4) (arg5.view.read (Elt F) X5) v1 v4 hw v22 v33 c0 k (arg8.view.read (Elt F) f8)⟩] := by
  unfold trip_k1_t1 stored acc
  dsimp only
  simp only [trip_k1_t1.sl.v144, trip_k1_t1.sl.HW_arg9_8, trip_k1_t1.sl.v127, trip_k1_t1.sl.HW_arg9_7, trip_k1_t1.sl.v116, trip_k1_t1.sl.HW_arg9_6, trip_k1_t1.sl.v105, trip_k1_t1.sl.HW_arg9_5, trip_k1_t1.sl.v94, trip_k1_t1.sl.HW_arg9_4, trip_k1_t1.sl.v83, trip_k1_t1.sl.HW_arg9_3, trip_k1_t1.sl.r, trip_k1_t1.sl.v72, trip_k1_t1.sl.HW_arg9_2, trip_k1_t1.sl.v61, trip_k1_t1.sl.HW_arg9_1, trip_k1_t1.sl.r_1, trip_k1_t1.sl.r_2, trip_k1_t1.sl.v44, trip_k1_t1.sl.v43, trip_k1_t1.sl.v42, trip_k1_t1.sl.arg10, View.readAt_eq_ld,
    View.readCov_cons_toLoadRect]

/-- The counted loop, read back: the trips before `n` leave `tiles` of what the output block read as before. -/
theorem read_tiles (G8 : BufTy.Contents (Elt F) arg8.view.ty) (G9 : BufTy.Contents (Elt F) arg9.view.ty) (n : ℕ) (hn : n ≤ (k1_t1_loop v1 v4).trips) :
    arg8.view.read (Elt F) (arg8.view.writes (Elt F) G8
        (pb_k1_t1 (F := F) 𝒱 c bd i arg2 harg2 arg3 harg3 arg4 harg4 arg5 harg5 arg6 harg6 arg7 harg7 arg8 harg8 arg9 harg9 v1 v4 hw v22 v33 c0 X4 X5 G8 G9 n).1)
      = tiles (arg4.view.read (Elt F) X4) (arg5.view.read (Elt F) X5) v1 v4 hw v22 v33 c0 (arg8.view.read (Elt F) G8) n := by
  induction n with
  | zero => rfl
  | succ n ih =>
    have h : n < (k1_t1_loop v1 v4).trips := hn
    have e := pb_k1_t1_succ (F := F) 𝒱 c bd i arg2 harg2 arg3 harg3 arg4 harg4 arg5 harg5 arg6 harg6 arg7 harg7 arg8 harg8 arg9 harg9 v1 v4 hw v22 v33 c0 X4 X5 G8 G9 ⟨n, h⟩
    dsimp only at e
    rw [e]
    dsimp only
    rw [trip_pieces, List.singleton_append, View.read_writes_cons_put _ _ _ _ _ rfl, ih (le_of_lt h)]
    exact (tiles_succ _ _ v1 v4 hw v22 v33 c0 _ n h).symm

end Trip

end Cert.Kernel.Matmul

end
-- ==== Proof.Body.lean ====
/- The triple of the printed grouped-product body at one grid point: given that the two group bounds it reads off the
   table pass the printed side condition, it keeps its inputs and leaves `blockOut` in the output block. -/
module

public import proofs.«01_k».proof.Proof.Tile
public import Idealize.ShloMosaic.Lib.Claim
public import Idealize.ShloMosaic.Lib.LoopRemainder

@[expose] public section

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first row of group `i 1`, and the row after its last, as the body reads them off the table of starts. -/
def lo (i : grid1.Coords) (xs : Vec F S4 .i32) : BitVec 32 :=
  View.ld xs (Rect.unit (s := S4) (k1_off2 i) S1.size (k1_off2_inb i)) (Shape.Idx.first (s := S1) (numel1_S1.symm ▸ Nat.one_pos))
/-- The table's entry after the group's own: the row at which the group ends. -/
def hi (i : grid1.Coords) (xs : Vec F S4 .i32) : BitVec 32 :=
  View.ld xs (Rect.unit (s := S4) (k1_off3 i) S1.size (k1_off3_inb i)) (Shape.Idx.first (s := S1) (numel1_S1.symm ▸ Nat.one_pos))
/-- The activation scale of group `i 1`. -/
def xsc (i : grid1.Coords) (x6 : Vec F S3 .f32) : Elt F .f32 :=
  View.ld x6 (Rect.unit (s := S3) (k1_off1 i) S1.size (k1_off1_inb i)) (Shape.Idx.first (s := S1) (numel1_S1.symm ▸ Nat.one_pos))

/-- The first row rounded down to a multiple of 32, as the body computes it. -/
def base (v1 : BitVec 32) : BitVec 32 :=
  Scalar.muli (Scalar.select (Scalar.andi
    (Scalar.cmpi .ne (Scalar.subi (Scalar.extui (Scalar.cmpi .sgt v1 0#32)) (Scalar.extui (Scalar.cmpi .slt v1 0#32)))
      1#32)
    (Scalar.cmpi .ne (Scalar.remsi v1 32#32) 0#32)) (Scalar.subi (Scalar.divsi v1 32#32) 1#32) (Scalar.divsi v1 32#32)) 32#32

/-- Whether the grid point is the first group of its column tile, as the body tests it. -/
abbrev isFirst (i : grid1.Coords) : Prop :=
  Scalar.cmpi .ne (Scalar.extui (Scalar.cmpi .eq (BitVec.ofNat 32 (i 1).val) 0#32) : BitVec 32) 0#32 = 1#1

/-- The output block after the grid point, of the starts table, codes, weights, scales and the block found (zeroed first at the first group). -/
def blockOut (i : grid1.Coords) (xs : Vec F S4 .i32) (hw : k1_chk1 (lo i xs) (hi i xs)) (x4 : Vec F S1024x16384 .fp8e4m3)
    (x5 : Vec F S1x16384x512 .fp8e4m3) (x6 : Vec F S3 .f32) (x7 : Vec F S1x1x512 .f32) (o : Vec F S1024x512 .bf16) : Vec F S1024x512 .bf16 :=
  tiles x4 x5 (lo i xs) (hi i xs) hw (base (lo i xs)) (k1_pay25 (xsc i x6) x7) 0#32
    (if isFirst i then k1_pay26 else o) (k1_t1_loop (lo i xs) (hi i xs)).trips

set_option maxHeartbeats 1000000 in
/-- The body at the first group of a column tile: the output block is zeroed first. -/
theorem sound_first (c : Dev nD) (E : Set ℕ) (i : grid1.Coords) (hi1 : isFirst i) (q : PosShare TreeShare)
    (arg2 : Memref sig .tc .smem S4 .i32) (harg2 : arg2.IsWhole) (arg3 : Memref sig .tc .smem S3 .i32) (harg3 : arg3.IsWhole)
    (arg4 : Memref sig .tc .vmem S1024x16384 .fp8e4m3) (harg4 : arg4.IsWhole) (arg5 : Memref sig .tc .vmem S1x16384x512 .fp8e4m3) (harg5 : arg5.IsWhole)
    (arg6 : Memref sig .tc .smem S3 .f32) (harg6 : arg6.IsWhole) (arg7 : Memref sig .tc .vmem S1x1x512 .f32) (harg7 : arg7.IsWhole)
    (arg8 : Memref sig .tc .vmem S1024x512 .bf16) (harg8 : arg8.IsWhole) (arg9 : Memref sig .tc .vmem S256x512 .f32) (harg9 : arg9.IsWhole)
    (xs : Vec F S4 .i32) (hw : k1_chk1 (lo i xs) (hi i xs)) (x4 : Vec F S1024x16384 .fp8e4m3)
    (x5 : Vec F S1x16384x512 .fp8e4m3) (x6 : Vec F S3 .f32) (x7 : Vec F S1x1x512 .f32) (o : Vec F S1024x512 .bf16) (K : PUnit → sProp 𝕄) :
    iprop(owns (c : Thread nD τ) arg2 q xs ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare o
        ∗ (∃ d, owns (c : Thread nD τ) arg9 fullShare d)
        ∗ (iprop(owns (c : Thread nD τ) arg2 q xs ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (blockOut i xs hw x4 x5 x6 x7 o)
            ∗ (∃ d, owns (c : Thread nD τ) arg9 fullShare d)) -∗ K ⟨⟩))
      ⊢ wp frame (wpE (defs₀ (F := F)) Variants.none c none) E
          (cc1_grouped_matmul i arg2 harg2 arg3 harg3 arg4 harg4 arg5 harg5 arg6 harg6 arg7 harg7 arg8 harg8 arg9 harg9) K := by
  simp only [cc1_grouped_matmul_eq_skeleton]; unfold cc1_grouped_matmul_skel
  simp only [k1_part7_eq_skeleton]
  unfold owns
  iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf2 hf4 hf5 hf6 hf7 hf8
  sl_exec
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.writes_append]
    refine (read_tiles (F := F) _ c _ i arg2 harg2 arg3 harg3 arg4 harg4 arg5 harg5 arg6 harg6 arg7 harg7 arg8 harg8 arg9 harg9
      _ _ hw _ _ _ _ _ _ _ _ le_rfl).trans ?_
    unfold blockOut sound_first.sl.H8_1
    rw [if_pos hi1, View.read_writes_full]
    have e1 : sound_first.sl.v22 c i arg2 f2 = base (lo i (arg2.view.read (Elt F) f2)) := by
      delta sound_first.sl.v22 sound_first.sl.v21 sound_first.sl.v20 sound_first.sl.v19 sound_first.sl.v18 sound_first.sl.v17 sound_first.sl.v16 sound_first.sl.v10 sound_first.sl.v9 sound_first.sl.v8 sound_first.sl.v7 sound_first.sl.v6 sound_first.sl.v5 sound_first.sl.r base lo
      simp only [View.readAt_eq_ld]
    have e2 : sound_first.sl.r_3 c i arg6 arg7 f6 f7 = k1_pay25 (xsc i (arg6.view.read (Elt F) f6)) (arg7.view.read (Elt F) f7) := by
      delta sound_first.sl.r_3 sound_first.sl.r_2 xsc
      rw [View.readAt_eq_ld, View.readAt_eq_ld]
      congr 1
      exact (View.readAt_eq_ld _ _ _).symm.trans (View.readAt_full arg7.view f7 inb_S1x1x512_S1x1x512_0_0_0)
    rw [e1, e2]
  iexists _; iexists _; isplitr
  swap; · iexact H9
  ipureintro; rfl

set_option maxHeartbeats 1000000 in
/-- The body at a later group of a column tile: it works on the block the groups before it left. -/
theorem sound_later (c : Dev nD) (E : Set ℕ) (i : grid1.Coords) (hi1 : ¬ isFirst i) (q : PosShare TreeShare)
    (arg2 : Memref sig .tc .smem S4 .i32) (harg2 : arg2.IsWhole) (arg3 : Memref sig .tc .smem S3 .i32) (harg3 : arg3.IsWhole)
    (arg4 : Memref sig .tc .vmem S1024x16384 .fp8e4m3) (harg4 : arg4.IsWhole) (arg5 : Memref sig .tc .vmem S1x16384x512 .fp8e4m3) (harg5 : arg5.IsWhole)
    (arg6 : Memref sig .tc .smem S3 .f32) (harg6 : arg6.IsWhole) (arg7 : Memref sig .tc .vmem S1x1x512 .f32) (harg7 : arg7.IsWhole)
    (arg8 : Memref sig .tc .vmem S1024x512 .bf16) (harg8 : arg8.IsWhole) (arg9 : Memref sig .tc .vmem S256x512 .f32) (harg9 : arg9.IsWhole)
    (xs : Vec F S4 .i32) (hw : k1_chk1 (lo i xs) (hi i xs)) (x4 : Vec F S1024x16384 .fp8e4m3)
    (x5 : Vec F S1x16384x512 .fp8e4m3) (x6 : Vec F S3 .f32) (x7 : Vec F S1x1x512 .f32) (o : Vec F S1024x512 .bf16) (K : PUnit → sProp 𝕄) :
    iprop(owns (c : Thread nD τ) arg2 q xs ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare o
        ∗ (∃ d, owns (c : Thread nD τ) arg9 fullShare d)
        ∗ (iprop(owns (c : Thread nD τ) arg2 q xs ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (blockOut i xs hw x4 x5 x6 x7 o)
            ∗ (∃ d, owns (c : Thread nD τ) arg9 fullShare d)) -∗ K ⟨⟩))
      ⊢ wp frame (wpE (defs₀ (F := F)) Variants.none c none) E
          (cc1_grouped_matmul i arg2 harg2 arg3 harg3 arg4 harg4 arg5 harg5 arg6 harg6 arg7 harg7 arg8 harg8 arg9 harg9) K := by
  simp only [cc1_grouped_matmul_eq_skeleton]; unfold cc1_grouped_matmul_skel
  simp only [k1_part7_eq_skeleton]
  unfold owns
  iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf2 hf4 hf5 hf6 hf7 hf8
  sl_exec
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_tiles (F := F) _ c _ i arg2 harg2 arg3 harg3 arg4 harg4 arg5 harg5 arg6 harg6 arg7 harg7 arg8 harg8 arg9 harg9
      _ _ hw _ _ _ _ _ _ _ _ le_rfl).trans ?_
    unfold blockOut
    rw [if_neg hi1]
    have e1 : sound_later.sl.v22 c i arg2 f2 = base (lo i (arg2.view.read (Elt F) f2)) := by
      delta sound_later.sl.v22 sound_later.sl.v21 sound_later.sl.v20 sound_later.sl.v19 sound_later.sl.v18 sound_later.sl.v17 sound_later.sl.v16 sound_later.sl.v10 sound_later.sl.v9 sound_later.sl.v8 sound_later.sl.v7 sound_later.sl.v6 sound_later.sl.v5 sound_later.sl.r base lo
      simp only [View.readAt_eq_ld]
    have e2 : sound_later.sl.r_3 c i arg6 arg7 f6 f7 = k1_pay25 (xsc i (arg6.view.read (Elt F) f6)) (arg7.view.read (Elt F) f7) := by
      delta sound_later.sl.r_3 sound_later.sl.r_2 xsc
      rw [View.readAt_eq_ld, View.readAt_eq_ld]
      congr 1
      exact (View.readAt_eq_ld _ _ _).symm.trans (View.readAt_full arg7.view f7 inb_S1x1x512_S1x1x512_0_0_0)
    rw [e1, e2]
  iexists _; iexists _; isplitr
  swap; · iexact H9
  ipureintro; rfl

/-- The body at any grid point: the inputs are kept, the output block is left at `blockOut`. -/
theorem sound_kernel (c : Dev nD) (E : Set ℕ) (i : grid1.Coords) (q : PosShare TreeShare)
    (arg2 : Memref sig .tc .smem S4 .i32) (harg2 : arg2.IsWhole) (arg3 : Memref sig .tc .smem S3 .i32) (harg3 : arg3.IsWhole)
    (arg4 : Memref sig .tc .vmem S1024x16384 .fp8e4m3) (harg4 : arg4.IsWhole) (arg5 : Memref sig .tc .vmem S1x16384x512 .fp8e4m3) (harg5 : arg5.IsWhole)
    (arg6 : Memref sig .tc .smem S3 .f32) (harg6 : arg6.IsWhole) (arg7 : Memref sig .tc .vmem S1x1x512 .f32) (harg7 : arg7.IsWhole)
    (arg8 : Memref sig .tc .vmem S1024x512 .bf16) (harg8 : arg8.IsWhole) (arg9 : Memref sig .tc .vmem S256x512 .f32) (harg9 : arg9.IsWhole)
    (xs : Vec F S4 .i32) (hw : k1_chk1 (lo i xs) (hi i xs)) (x4 : Vec F S1024x16384 .fp8e4m3)
    (x5 : Vec F S1x16384x512 .fp8e4m3) (x6 : Vec F S3 .f32) (x7 : Vec F S1x1x512 .f32) (o : Vec F S1024x512 .bf16) (K : PUnit → sProp 𝕄) :
    iprop(owns (c : Thread nD τ) arg2 q xs ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare o
        ∗ (∃ d, owns (c : Thread nD τ) arg9 fullShare d)
        ∗ (iprop(owns (c : Thread nD τ) arg2 q xs ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (blockOut i xs hw x4 x5 x6 x7 o)
            ∗ (∃ d, owns (c : Thread nD τ) arg9 fullShare d)) -∗ K ⟨⟩))
      ⊢ wp frame (wpE (defs₀ (F := F)) Variants.none c none) E
          (cc1_grouped_matmul i arg2 harg2 arg3 harg3 arg4 harg4 arg5 harg5 arg6 harg6 arg7 harg7 arg8 harg8 arg9 harg9) K := by
  by_cases hi1 : isFirst i
  · exact sound_first c E i hi1 q arg2 harg2 arg3 harg3 arg4 harg4 arg5 harg5 arg6 harg6 arg7 harg7 arg8 harg8 arg9 harg9 xs hw x4 x5 x6 x7 o K
  · exact sound_later c E i hi1 q arg2 harg2 arg3 harg3 arg4 harg4 arg5 harg5 arg6 harg6 arg7 harg7 arg8 harg8 arg9 harg9 xs hw x4 x5 x6 x7 o K

end Cert.Kernel.Matmul

end
-- ==== Proof.Grouped.lean ====
/- The grouped product's call: the pipeline's proof data over any contents `W` of the core's buffers at the region's
   entry and any admissible tables `a`, and its body obligation. -/
module

public import proofs.«01_k».proof.Proof.Body
public import proofs.«01_k».proof.Proof.Gen.Kernel.Launch

@[expose] public section

set_option maxRecDepth 16384

noncomputable section

namespace Cert.Kernel.Matmul

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))
variable (a : (pcfg1 (F := F)).Adm)

/-- The table of group starts, as the call is given it. -/
abbrev starts : Vec F S4 .i32 := a.1 0

/-- A grid point's test for the first group, by the point's number. -/
theorem isFirst_iff : ∀ t : Fin grid1.N, isFirst (grid1.coords t) ↔ t.val % 3 = 0 := by decide +kernel

/-- The output block is written back at the last group of each column tile. -/
theorem flush_4 : ∀ t : Fin grid1.N, ((cfg1 a).win 4).flush t = true ↔ t.val % 3 = 2 := by
  have h : ∀ t : Fin grid1.N, Pipeline.Window.flushOf grid1 true cc1_transform_4 t = true ↔ t.val % 3 = 2 := by decide +kernel
  exact h

/-- Window `w`'s block at point `t`, read off its array as the region finds it. -/
def iblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (W c (Pipeline.arrRef spec1 w))

variable (hchk : ∀ i : grid1.Coords, k1_chk1 (lo i (starts a)) (hi i (starts a)))

/-- What one point leaves in the output block, of what it finds there. -/
def stepOut (c : Dev nD) (t : Fin (cfg1 a).N) (o : Vec F S1024x512 .bf16) : Vec F S1024x512 .bf16 :=
  blockOut (grid1.coords t) (starts a) (hchk _) (iblk W a c 0 t) (iblk W a c 1 t) (iblk W a c 2 t) (iblk W a c 3 t) o

/-- The output block after point `n`: each point works on what the point before it left. -/
def outBlk (c : Dev nD) : ∀ n : ℕ, n < (cfg1 a).N → Vec F S1024x512 .bf16
  | 0, h => stepOut W a hchk c ⟨0, h⟩ k1_pay26
  | n + 1, h => stepOut W a hchk c ⟨n + 1, h⟩ (outBlk c n (Nat.lt_of_succ_lt h))

/-- At a first group the block found does not matter. -/
theorem stepOut_first (c : Dev nD) (t : Fin (cfg1 a).N) (h : isFirst (grid1.coords t)) (o o' : Vec F S1024x512 .bf16) :
    stepOut W a hchk c t o = stepOut W a hchk c t o' := by
  unfold stepOut blockOut; rw [if_pos h, if_pos h]

/-- The block after a point is one step from the block before it. -/
theorem outBlk_step (c : Dev nD) (t : Fin (cfg1 a).N) (ht : t.val ≠ 0) :
    outBlk W a hchk c t.val t.isLt = stepOut W a hchk c t (outBlk W a hchk c (t.val - 1) (by omega)) := by
  obtain ⟨n, hn⟩ := t
  cases n with
  | zero => exact absurd rfl ht
  | succ n => rfl

/-- The table of weight blocks, as the call is given it. -/
abbrev blocks : Vec F S3 .i32 := a.1 1

/-- The two tables, held whole. -/
theorem tables_eq (c : Dev nD) :
    (Pipeline.prefHeld pre1 c (fun _ => fullShare) a.1 : sProp 𝕄)
      = iprop(owns (c : Thread nD τ) (Memref.whole main_v2) fullShare (starts a) ∗ owns (c : Thread nD τ) (Memref.whole main_v31) fullShare (blocks a)) :=
  (bigSep_univ_eq_bigSepL [(0 : Fin 2), (1 : Fin 2)] (by decide) (by decide) _).trans
    (congrArg₂ (fun P Q : sProp 𝕄 => iprop(P ∗ Q)) (owns_whole (c : Thread nD τ) main_v2 fullShare (starts a)).symm
      (owns_whole (c : Thread nD τ) main_v31 fullShare (blocks a)).symm)

/-- The proof data of the grouped product: inputs keep their blocks, the output block follows `outBlk`; beside them ride the
    scoped buffers no window stages (the accumulator among them) and the two tables. -/
def dat (c : Dev nD) : Dat τ (Elt F) Unit ℕ (UR sig nD τ) ℕ (cfg1 a) c where
  A w := W c (Pipeline.arrRef spec1 w)
  after w t := match w with
    | ⟨0, _⟩ => iblk W a c 0 t
    | ⟨1, _⟩ => iblk W a c 1 t
    | ⟨2, _⟩ => iblk W a c 2 t
    | ⟨3, _⟩ => iblk W a c 3 t
    | ⟨4, _⟩ => outBlk W a hchk c t.val t.isLt
  Φ _ := iprop(iprop(Pipeline.scopedRest spec1 c ∗ emp) ∗ Pipeline.prefHeld pre1 c (fun _ => fullShare) a.1)
  q _ := fullShare
  owed _ := 0

/-- Before the region each window's array is what the host left there. -/
theorem A_eq (c : Dev nD) (w : Fin (cfg1 a).W) : (dat W a hchk c).A w = W c (Pipeline.arrRef spec1 w) := by
  dsimp only [dat]
/-- The body keeps the block of window 0, the codes. -/
theorem after_0 (c : Dev nD) (t) : (dat W a hchk c).after 0 t = iblk W a c 0 t := rfl
/-- The same of window 1, the weight codes. -/
theorem after_1 (c : Dev nD) (t) : (dat W a hchk c).after 1 t = iblk W a c 1 t := rfl
/-- The same of window 2, the activation scales of the groups. -/
theorem after_2 (c : Dev nD) (t) : (dat W a hchk c).after 2 t = iblk W a c 2 t := rfl
/-- The same of window 3, the weight scales. -/
theorem after_3 (c : Dev nD) (t) : (dat W a hchk c).after 3 t = iblk W a c 3 t := rfl
/-- The body leaves `outBlk` in the output block. -/
theorem after_4 (c : Dev nD) (t : Fin (cfg1 a).N) : (dat W a hchk c).after 4 t = outBlk W a hchk c t.val t.isLt := rfl

/-- What the body finds in window 0: the block of the array as the host left it. -/
theorem before_0 (c : Dev nD) (t d) : (dat W a hchk c).before 0 t d = iblk W a c 0 t :=
  ((dat W a hchk c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- The same of window 1. -/
theorem before_1 (c : Dev nD) (t d) : (dat W a hchk c).before 1 t d = iblk W a c 1 t :=
  ((dat W a hchk c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- The same of window 2. -/
theorem before_2 (c : Dev nD) (t d) : (dat W a hchk c).before 2 t d = iblk W a c 2 t :=
  ((dat W a hchk c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- The same of window 3. -/
theorem before_3 (c : Dev nD) (t d) : (dat W a hchk c).before 3 t d = iblk W a c 3 t :=
  ((dat W a hchk c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Whatever the output block is found at, one step from it is the block `outBlk` says. -/
theorem step_before_4 (c : Dev nD) (t : Fin (cfg1 a).N) (d) :
    stepOut W a hchk c t ((dat W a hchk c).before 4 t d) = outBlk W a hchk c t.val t.isLt := by
  by_cases hf : isFirst (grid1.coords t)
  · by_cases h0 : t.val = 0
    · obtain ⟨n, hn⟩ := t
      obtain rfl : n = 0 := h0
      exact stepOut_first W a hchk c _ hf _ _
    · rw [outBlk_step W a hchk c t h0]
      exact stepOut_first W a hchk c _ hf _ _
  · have h3 : t.val % 3 ≠ 0 := fun h => hf ((isFirst_iff t).mpr h)
    have h0 : t.val ≠ 0 := fun h => h3 (by rw [h])
    rw [outBlk_step W a hchk c t h0]
    congr 1
    refine ((dat W a hchk c).before_out_kept 4 rfl t h0 ?_ (fun _ => rfl) (fun _ _ => rfl) d).trans (after_4 W a hchk c _)
    rw [← Bool.not_eq_true]
    intro h
    have := (flush_4 a _).mp h
    simp only at this
    omega

/-- The staging buffers at point `t`, and the body's call on them. -/
abbrev st (t : Fin (cfg1 a).N) (w : Fin (cfg1 a).W) := ((cfg1 a).win w).stage ((cfg1 a).slots t w)
/-- The body at one grid point, over its slots. -/
abbrev bodyAt (t : Fin (cfg1 a).N) : Prog (TpuEff nD τ sig (Elt F) Λ₀ .tc) PUnit :=
  cc1_grouped_matmul (grid1.coords t) (Memref.whole main_v2) (Memref.isWhole_whole _) (Memref.whole main_v31) (Memref.isWhole_whole _)
    (st a t 0) (hstage1_0 (((cfg1 a).slots t 0).cast nbuf1_0)) (st a t 1) (hstage1_1 (((cfg1 a).slots t 1).cast nbuf1_1))
    (st a t 2) (hstage1_2 (((cfg1 a).slots t 2).cast nbuf1_2)) (st a t 3) (hstage1_3 (((cfg1 a).slots t 3).cast nbuf1_3))
    (st a t 4) (hstage1_4 (((cfg1 a).slots t 4).cast nbuf1_4)) (Memref.whole cc1_scratch0) (Memref.isWhole_whole _)

/-- The table of bodies calls it so. -/
theorem defs₀_row (t : Fin (cfg1 a).N) :
    defs₀ (F := F) .tc (cfg1 a).body ((cfg1 a).bodyArgs t ((cfg1 a).slots t)) = bodyAt a t := by
  unfold defs₀; rw [Defs.onTc_tc]; rfl

/-- The accumulator's buffer, owned, is its points-to. -/
theorem scratch_out (c : Dev nD) (g : Vec F S256x512 .f32) :
    (owns (c : Thread nD τ) (Memref.whole cc1_scratch0) fullShare g : sProp 𝕄)
      ⊢ (((c : Thread nD τ).loc cc1_scratch0) ↦{fullShare} g) := by
  rw [owns_whole (c : Thread nD τ) cc1_scratch0]

/-- What the body is called with at point `t`, and what it returns. -/
def bodyPre (c : Dev nD) (t : Fin (cfg1 a).N) : sProp 𝕄 :=
  iprop((dat W a hchk c).Φ t.castSucc ∗ (dat W a hchk c).owesAt () t.castSucc
    ∗ (∃ d, owns (c : Thread nD τ) (st a t 0) fullShare ((dat W a hchk c).before 0 t d))
    ∗ (∃ d, owns (c : Thread nD τ) (st a t 1) fullShare ((dat W a hchk c).before 1 t d))
    ∗ (∃ d, owns (c : Thread nD τ) (st a t 2) fullShare ((dat W a hchk c).before 2 t d))
    ∗ (∃ d, owns (c : Thread nD τ) (st a t 3) fullShare ((dat W a hchk c).before 3 t d))
    ∗ (∃ d, owns (c : Thread nD τ) (st a t 4) fullShare ((dat W a hchk c).before 4 t d)))
/-- What holds after the body at one grid point. -/
def bodyPost (c : Dev nD) (t : Fin (cfg1 a).N) : sProp 𝕄 :=
  iprop((dat W a hchk c).Φ t.succ ∗ (dat W a hchk c).owesAt () t.succ
    ∗ owns (c : Thread nD τ) (st a t 0) fullShare ((dat W a hchk c).after 0 t)
    ∗ owns (c : Thread nD τ) (st a t 1) fullShare ((dat W a hchk c).after 1 t)
    ∗ owns (c : Thread nD τ) (st a t 2) fullShare ((dat W a hchk c).after 2 t)
    ∗ owns (c : Thread nD τ) (st a t 3) fullShare ((dat W a hchk c).after 3 t)
    ∗ owns (c : Thread nD τ) (st a t 4) fullShare ((dat W a hchk c).after 4 t))

set_option maxHeartbeats 800000 in
/-- The body's triple at every point. -/
theorem sound_body (c : Dev nD) (t : Fin (cfg1 a).N) :
    bodyPre W a hchk c t ⊢ wp frame (wpE (defs₀ (F := F)) Variants.none c none) Set.univ (bodyAt a t) (fun _ => bodyPost W a hchk c t) := by
  unfold bodyPre bodyPost
  simp only [before_0, before_1, before_2, before_3]
  rw [show (dat W a hchk c).Φ t.succ = (dat W a hchk c).Φ t.castSucc from rfl,
    show (dat W a hchk c).owesAt () t.succ = (dat W a hchk c).owesAt () t.castSucc from rfl,
    after_0, after_1, after_2, after_3, after_4,
    show (dat W a hchk c).Φ t.castSucc = iprop(iprop(Pipeline.scopedRest spec1 c ∗ emp) ∗ Pipeline.prefHeld pre1 c (fun _ => fullShare) a.1) from rfl,
    scopedRest1_eq, tables_eq]
  iintro ⟨⟨⟨⟨R0, R1, R2, R3, R4, R5, ⟨%f9, H9⟩⟩, He⟩, ⟨Ht, Hi⟩⟩, Ho, ⟨%d0, H0⟩, ⟨%d1, H1⟩, ⟨%d2, H2⟩, ⟨%d3, H3⟩, ⟨%d4, H4⟩⟩
  rw [← step_before_4 W a hchk c t d4]
  iapply (sound_kernel c Set.univ (grid1.coords t) fullShare _ _ _ _ _ _ _ _ _ _ _ _ _ _ _ _ (starts a) (hchk _)
    (iblk W a c 0 t) (iblk W a c 1 t) (iblk W a c 2 t) (iblk W a c 3 t) ((dat W a hchk c).before 4 t d4) _)
  isplitl [Ht]; · iexact Ht
  isplitl [H0]; · iexact H0
  isplitl [H1]; · iexact H1
  isplitl [H2]; · iexact H2
  isplitl [H3]; · iexact H3
  isplitl [H4]; · iexact H4
  isplitl [H9]
  · iexists f9; rw [owns_whole (c : Thread nD τ) cc1_scratch0]; iexact H9
  iintro ⟨Ht, H0, H1, H2, H3, H4, ⟨%g9, H9⟩⟩
  isplitl [R0 R1 R2 R3 R4 R5 H9 He Ht Hi]
  · isplitl [R0 R1 R2 R3 R4 R5 H9 He]
    · isplitl [R0 R1 R2 R3 R4 R5 H9]
      · isplitl [R0]; · iexact R0
        isplitl [R1]; · iexact R1
        isplitl [R2]; · iexact R2
        isplitl [R3]; · iexact R3
        isplitl [R4]; · iexact R4
        isplitl [R5]; · iexact R5
        iexists g9
        iapply (scratch_out c g9)
        iexact H9
      · iexact He
    · isplitl [Ht]; · iexact Ht
      iexact Hi
  isplitl [Ho]; · iexact Ho
  isplitl [H0]; · iexact H0
  isplitl [H1]; · iexact H1
  isplitl [H2]; · iexact H2
  isplitl [H3]; · iexact H3
  iexact H4

/-- The body obligation of the grouped product, at every point. -/
theorem body_obligation (c : Dev nD) : BodyObligation (dat W a hchk c) (defs₀ (F := F)) Variants.none () Set.univ := fun t => by
  rw [bigSep_W1, bigSep_W1, defs₀_row]
  exact triple_restated (sound_body W a hchk c t) rfl .rfl fun _ => .rfl

end Cert.Kernel.Matmul

end
-- ==== Proof.Run.lean ====
/- The run of the whole program from a state whose group starts are in range: the host stretches, the quantising call and
   the grouped product, one after the other. Every argument ends as launched, every semaphore counter at zero, and the
   result array holds what the grouped product's pipeline leaves in it. -/
module

public import proofs.«01_k».proof.Proof.Quantise
public import proofs.«01_k».proof.Proof.Grouped
public import proofs.«01_k».proof.Proof.Gen.Kernel.Regions
public import Idealize.ShloMosaic.Lib.Pipeline.RegionArraysTS

@[expose] public section

set_option maxRecDepth 16384

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

variable (m : (ℓ : Loc nD τ sig) → Buf (Elt F) ℓ)

/-- The run of the whole program, from a proof of each of its two regions and the links between them: it ends with the result as the second region leaves it, the arguments unchanged and every semaphore at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V18 m c) ∗ E 0 c) ⊢ R0.pre c)
    (hpost0 : ∀ c : Dev nD, R0.post c ⊢ iprop(StableHlo.held (c : Thread nD τ) (Pipeline.ucRefs τ sig) (V19 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V20 m outs c) ∗ E 1 c) ⊢ R1.pre c)
    (hpost1 : ∀ c : Dev nD, R1.post c ⊢ iprop(StableHlo.held (c : Thread nD τ) (Pipeline.ucRefs τ sig) (V21 m outs c) ∗ E 2 c)) :
    θ_run defs (onTc (τ := τ) (main (F := F))) ⟨m, fun _ => 0, ρ⟩ (fun r => (∀ c : Dev nD,
      r.2.mem ((c.tc : Thread nD τ).loc main_v42) = V21 m outs c (Proc.devRef .tc main_v42) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V21 m outs c))
    (hch := fun c => ⟨.rfl, .rfl, .rfl, .rfl, .rfl, .rfl, .rfl, .rfl, .rfl, .rfl, .rfl, .rfl, .rfl, .rfl, .rfl, .rfl, .rfl, .rfl, hpre0 c, hpost0 c, hpre1 c, (hpost1 c).trans (sep_mono .rfl (hE2 c))⟩)
    (hinit := ?_) (QY := fun c s => s.mem ((c.tc : Thread nD τ).loc main_v42) = V21 m outs c (Proc.devRef .tc main_v42) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V21 m outs c) s') $$ [Hh HSI]
    · isplitl [Hh] <;> iassumption
    icases Hr with ⟨%h, HSI⟩
    imodintro
    isplitr
    · ipureintro
      exact ⟨h (Proc.devRef .tc main_v42) (Finset.mem_filter.mpr ⟨StableHlo.devRef_mem_tcRefs main_v42, by decide⟩),
        (h (Proc.devRef .tc main_arg0) (Finset.mem_filter.mpr ⟨StableHlo.devRef_mem_tcRefs main_arg0, by decide⟩)).trans (V21_main_arg0 m outs c),
        (h (Proc.devRef .tc main_arg1) (Finset.mem_filter.mpr ⟨StableHlo.devRef_mem_tcRefs main_arg1, by decide⟩)).trans (V21_main_arg1 m outs c),
        (h (Proc.devRef .tc main_arg2) (Finset.mem_filter.mpr ⟨StableHlo.devRef_mem_tcRefs main_arg2, by decide⟩)).trans (V21_main_arg2 m outs c),
        (h (Proc.devRef .tc main_arg3) (Finset.mem_filter.mpr ⟨StableHlo.devRef_mem_tcRefs main_arg3, by decide⟩)).trans (V21_main_arg3 m outs c),
        (h (Proc.devRef .tc main_arg4) (Finset.mem_filter.mpr ⟨StableHlo.devRef_mem_tcRefs main_arg4, by decide⟩)).trans (V21_main_arg4 m outs c)⟩
    · iexact HSI

local notation "𝕄" => MT nD τ sig Unit (Elt F) ℕ (UR sig nD τ) ℕ

/-! ## The two regions -/

/-- The buffers as the quantising call finds them. -/
abbrev entry0 (c : Dev nD) (b : Ref sig .tc) : Buf (Elt F) ((c : Thread nD τ).loc b) := V18 m c (Proc.devRef .tc b)

/-- What the quantising call leaves in each buffer. -/
abbrev left0 (c : Dev nD) : Valuation τ sig (Elt F) := Pipeline.afterRegion (Quantise.dat (entry0 m) c) (V18 m c)

/-- The unknowns of the conditional frame, with the first region's filled in. -/
abbrev outs₁ : Outs (F := F) := fun _ r c => left0 m c (Proc.devRef .tc r)

/-- The buffers as the grouped product finds them. -/
abbrev entry1 (c : Dev nD) (b : Ref sig .tc) : Buf (Elt F) ((c : Thread nD τ).loc b) := V20 m (outs₁ m) c (Proc.devRef .tc b)

variable (a₁ : (pcfg1 (F := F)).Adm)
variable (hchk : ∀ i : grid1.Coords, k1_chk1 (Matmul.lo i (Matmul.starts a₁)) (Matmul.hi i (Matmul.starts a₁)))

/-- What the grouped product leaves in each buffer. -/
abbrev left1 (c : Dev nD) : Valuation τ sig (Elt F) := Pipeline.afterRegion (Matmul.dat (entry1 m) a₁ hchk c) (V20 m (outs₁ m) c)

/-- What each region leaves in the array it writes. -/
def outs₂ : Outs (F := F) := fun k r c => if k = 19 then left0 m c (Proc.devRef .tc r) else left1 m a₁ hchk c (Proc.devRef .tc r)

/-- The contents the two calls' pipelines are read at: the second call's tables. -/
def adms : (p : Fin 2) → (pcfgs (F := F) p).Adm
  | 0 => cfg0.toPCfg_adm
  | 1 => a₁

/-- The two pipelines' proof data. -/
def pdats : (p : Fin 2) → (c : Dev nD) → Dat τ (Elt F) Unit ℕ (UR sig nD τ) ℕ (Pipeline.pin (pcfgs (F := F)) (adms a₁) p) c
  | 0 => fun c => Quantise.dat (entry0 m) c
  | 1 => fun c => Matmul.dat (entry1 m) a₁ hchk c

/-- The wait indices: one at each of the TensorCores' cells. -/
def L : GSem nD τ sig → Finset Unit := fun g => if g.1.2 = .tc then {()} else ∅

/-- One level for all of them. -/
def lv : GSem nD τ sig → Unit → ℕ := fun _ _ => 0

/-- Between the items a core owes nothing. -/
abbrev E : Fin 3 → Dev nD → sProp 𝕄 := fun _ c => iprop(∃ Wd, owes (c : Thread nD τ) (0 : CellTallies nD τ sig Unit) Wd)

omit [FloatOps F] in
/-- Nothing beside: an assertion with nothing on its right. -/
theorem drop_emp (A : sProp 𝕄) : iprop(A ∗ BI.emp) ⊢ A := by
  iintro ⟨H, -⟩
  iexact H

omit [FloatOps F] in
/-- Nothing beside: an assertion gains nothing on its right. -/
theorem add_emp (A : sProp 𝕄) : A ⊢ iprop(A ∗ BI.emp) := by
  iintro H
  isplitl [H]; · iexact H
  iempintro

omit [FloatOps F] in
/-- What is held and owed, with the two empty places a region's record asks for. -/
theorem to_pre (A B : sProp 𝕄) : iprop(A ∗ B) ⊢ iprop(A ∗ (B ∗ BI.emp ∗ BI.emp)) := by
  iintro ⟨HA, HB⟩
  isplitl [HA]; · iexact HA
  isplitl [HB]; · iexact HB
  isplitl <;> iempintro

omit [FloatOps F] in
/-- The same, the empty places dropped. -/
theorem of_post (A B : sProp 𝕄) : iprop(A ∗ (B ∗ BI.emp ∗ BI.emp)) ⊢ iprop(A ∗ B) := by
  iintro ⟨HA, HB, -⟩
  isplitl [HA]; · iexact HA
  iexact HB

/-- Waits and what is owed never cross: nothing is owed. -/
theorem cut (a : (p : Fin 2) → (pcfgs (F := F) p).Adm) (p : Fin 2) :
    Pipeline.LevelCut (pcfgs (F := F)) a () L lv p (fun _ => (0 : CellTallies nD τ sig Unit)) (fun _ => (0 : ℕ)) where
  hι := fun c w s => by simp [L]
  hιb := fun c w s => le_refl _
  hD := fun c g i h => absurd h (lt_irrefl _)

/-- Entering the quantising call: the buffers no window stages are all its invariant holds. -/
theorem enter0 (c : Dev nD) : iprop(Pipeline.scopedRest (Pipeline.pin (pcfgs (F := F)) (adms a₁) 0).spec c ∗ BI.emp) ⊢ (pdats m a₁ hchk 0 c).Φ 0 := by
  have h : (Quantise.dat (entry0 m) c).Φ 0 = Pipeline.scopedRest spec0 c := by dsimp only [Quantise.dat]
  show iprop(Pipeline.scopedRest spec0 c ∗ BI.emp) ⊢ (Quantise.dat (entry0 m) c).Φ 0
  rw [h]
  exact drop_emp (F := F) _

/-- Leaving it, they are given back. -/
theorem leave0 (c : Dev nD) : (pdats m a₁ hchk 0 c).Φ (Fin.last (Pipeline.pin (pcfgs (F := F)) (adms a₁) 0).N)
    ⊢ iprop(Pipeline.scopedRest (Pipeline.pin (pcfgs (F := F)) (adms a₁) 0).spec c ∗ BI.emp) := by
  have h : (Quantise.dat (entry0 m) c).Φ (Fin.last cfg0.N) = Pipeline.scopedRest spec0 c := by dsimp only [Quantise.dat]
  show (Quantise.dat (entry0 m) c).Φ (Fin.last cfg0.N) ⊢ iprop(Pipeline.scopedRest spec0 c ∗ BI.emp)
  rw [h]
  exact add_emp (F := F) _

set_option backward.isDefEq.respectTransparency.types false in
/-- The quantising call as a segment of the program. -/
def R0 : RegionSeg (pcfgs (F := F)) (adms a₁) (pdats m a₁ hchk) () defs₀ Variants.none L lv 0 :=
  RegionSeg.ofHeldIn (pcfgs (F := F)) (adms a₁) (pdats m a₁ hchk) () defs₀ Variants.none L lv 0 (fun _ => 0) (Pipeline.ucRefs τ sig)
    (fun _ => BI.emp) (fun _ => BI.emp) launch0 rfl
    (fun c => (Quantise.body_obligation (entry0 m) c).loose) (fun _ _ => rfl) (fun _ => rfl)
    (fun c => (Quantise.dat (entry0 m) c).share_full fun _ => rfl)
    (fun c => enter0 m a₁ hchk c) (fun c => leave0 m a₁ hchk c) (fun _ => 0) (cut _ 0) (fun _ => BI.emp) (fun c => V18 m c)
    (fun c w => Quantise.A_eq (entry0 m) c w)

set_option backward.isDefEq.respectTransparency.types false in
/-- The grouped product's call as a segment of the program. -/
def R1 (hT : ∀ (c : Dev nD) k, a₁.1 k = V20 m (outs₁ m) c (Proc.devRef .tc (pre1.ref k))) :
    RegionSeg (pcfgs (F := F)) (adms a₁) (pdats m a₁ hchk) () defs₀ Variants.none L lv 1 :=
  RegionSeg.ofHeldInT (pcfgs (F := F)) (adms a₁) (pdats m a₁ hchk) () defs₀ Variants.none L lv 1 (fun _ => 0) (Pipeline.ucRefs τ sig)
    (fun _ => BI.emp) (fun _ => BI.emp) launch1
    (fun c => (Matmul.body_obligation (entry1 m) a₁ hchk c).loose) (fun _ _ => rfl) (fun _ => rfl)
    (fun c => (Matmul.dat (entry1 m) a₁ hchk c).share_full fun _ => rfl)
    (fun _ => .rfl) (fun _ => .rfl) (fun _ => 0) (cut _ 1) (fun _ => BI.emp) (fun c => V20 m (outs₁ m) c)
    (fun c w => Matmul.A_eq (entry1 m) a₁ hchk c w) hT

/-- The windows of the quantising call. -/
theorem fin0 : ∀ w : Fin 3, w = 0 ∨ w = 1 ∨ w = 2 := by decide

/-- The windows of the grouped product's call. -/
theorem fin1 : ∀ w : Fin 5, w = 0 ∨ w = 1 ∨ w = 2 ∨ w = 3 ∨ w = 4 := by decide

/-- After the quantising call only the codes' array has changed. -/
theorem left0_eq (c : Dev nD) : left0 m c = V19 m (outs₂ m a₁ hchk) c := by
  funext b
  by_cases hb : b = Proc.devRef .tc main_v40
  · subst hb
    simp only [V19, Function.update_self]
    rfl
  · simp only [V19, Function.update_of_ne hb]
    by_cases hw : ∃ w, b = Proc.devRef .tc (Pipeline.arrRef spec0 w)
    · obtain ⟨w, rfl⟩ := hw
      refine Pipeline.afterRegion_keeps (Quantise.dat (entry0 m) c) (V18 m c) winFacts0.arr_inj (Quantise.A_eq (entry0 m) c) _ fun w' e => ?_
      rcases fin0 w' with rfl | rfl | rfl
      · rfl
      · rfl
      · exact absurd (congrArg (Proc.devRef (τ := τ) .tc) e).symm hb
    · unfold left0 Pipeline.afterRegion
      rw [dif_neg hw]

/-- After the grouped product only the result array has changed. -/
theorem left1_eq (c : Dev nD) : left1 m a₁ hchk c = V21 m (outs₂ m a₁ hchk) c := by
  funext b
  by_cases hb : b = Proc.devRef .tc main_v42
  · subst hb
    simp only [V21, Function.update_self]
    rfl
  · simp only [V21, Function.update_of_ne hb]
    by_cases hw : ∃ w, b = Proc.devRef .tc (Pipeline.arrRef spec1 w)
    · obtain ⟨w, rfl⟩ := hw
      refine Pipeline.afterRegion_keeps (Matmul.dat (entry1 m) a₁ hchk c) (V20 m (outs₁ m) c) winFacts1.arr_inj (Matmul.A_eq (entry1 m) a₁ hchk c) _ fun w' e => ?_
      rcases fin1 w' with rfl | rfl | rfl | rfl | rfl
      · rfl
      · rfl
      · rfl
      · rfl
      · exact absurd (congrArg (Proc.devRef (τ := τ) .tc) e).symm hb
    · unfold left1 Pipeline.afterRegion
      rw [dif_neg hw]
      rfl

/-- The quantising call's arrays are among the core's buffers. -/
theorem sub0 : Pipeline.arrRefs (τ := τ) (pcfgs (F := F) 0).spec ⊆ Pipeline.ucRefs τ sig := Pipeline.arrRefs_sub_ucRefs spec0 winFacts0.arr_unscoped

/-- The grouped product's arrays are among the core's buffers. -/
theorem sub1 : Pipeline.arrRefs (τ := τ) (pcfgs (F := F) 1).spec ⊆ Pipeline.ucRefs τ sig := Pipeline.arrRefs_sub_ucRefs spec1 winFacts1.arr_unscoped

/-- The grouped product's tables are among the core's buffers. -/
theorem tsub1 : Pipeline.tblRefs (τ := τ) (pcfgs (F := F) 1).pre ⊆ Pipeline.ucRefs τ sig := Pipeline.tblRefs_sub_ucRefs pre1 preFacts1.unscoped

set_option backward.isDefEq.respectTransparency.types false in
/-- The quantising call is entered from the buffers as the host left them. -/
theorem pre0 (c : Dev nD) : iprop(StableHlo.held (c.tc : Thread nD τ) (Pipeline.ucRefs τ sig) (V18 m c)
    ∗ ((∃ Wd, owes (c : Thread nD τ) (0 : CellTallies nD τ sig Unit) Wd) ∗ BI.emp ∗ BI.emp)) ⊢ (R0 m a₁ hchk).pre c := by
  unfold R0
  exact RegionSeg.ofHeldIn_pre (pcs := pcfgs (F := F)) (a := adms a₁) (pdats := pdats m a₁ hchk) (ι := ()) (defs₀ := defs₀) (𝒱₀ := Variants.none) (L := L) (lv := lv)
    (p := 0) (D := fun _ => 0) (S := Pipeline.ucRefs τ sig) (X := fun _ => BI.emp) (Y := fun _ => BI.emp) (R := fun _ => BI.emp) (W := fun c => V18 m c) sub0 c

set_option backward.isDefEq.respectTransparency.types false in
/-- The quantising call leaves the buffers at `left0`. -/
theorem post0 (c : Dev nD) : (R0 m a₁ hchk).post c ⊢ iprop(StableHlo.held (c.tc : Thread nD τ) (Pipeline.ucRefs τ sig) (left0 m c)
    ∗ ((∃ Wd, owes (c : Thread nD τ) (0 : CellTallies nD τ sig Unit) Wd) ∗ BI.emp ∗ BI.emp)) := by
  unfold R0
  exact RegionSeg.ofHeldIn_post sub0 c

variable (hT : ∀ (c : Dev nD) k, a₁.1 k = V20 m (outs₁ m) c (Proc.devRef .tc (pre1.ref k)))

set_option backward.isDefEq.respectTransparency.types false in
/-- The grouped product's call is entered from the buffers the first call left. -/
theorem enter1 (c : Dev nD) : iprop(StableHlo.held (c.tc : Thread nD τ) (Pipeline.ucRefs τ sig) (V20 m (outs₁ m) c)
    ∗ ((∃ Wd, owes (c : Thread nD τ) (0 : CellTallies nD τ sig Unit) Wd) ∗ BI.emp ∗ BI.emp)) ⊢ (R1 m a₁ hchk hT).pre c := by
  unfold R1
  exact RegionSeg.ofHeldInT_pre (pcs := pcfgs (F := F)) (a := adms a₁) (pdats := pdats m a₁ hchk) (ι := ()) (defs₀ := defs₀) (𝒱₀ := Variants.none) (L := L) (lv := lv)
    (p := 1) (D := fun _ => 0) (S := Pipeline.ucRefs τ sig) (X := fun _ => BI.emp) (Y := fun _ => BI.emp) (R := fun _ => BI.emp) (W := fun c => V20 m (outs₁ m) c) sub1 tsub1 c

set_option backward.isDefEq.respectTransparency.types false in
/-- The grouped product leaves the buffers at `left1`. -/
theorem post1 (c : Dev nD) : (R1 m a₁ hchk hT).post c ⊢ iprop(StableHlo.held (c.tc : Thread nD τ) (Pipeline.ucRefs τ sig) (left1 m a₁ hchk c)
    ∗ ((∃ Wd, owes (c : Thread nD τ) (0 : CellTallies nD τ sig Unit) Wd) ∗ BI.emp ∗ BI.emp)) := by
  unfold R1
  exact RegionSeg.ofHeldInT_post sub1 tsub1 c

/-- The second call is entered the same whatever it leaves. -/
theorem entry1_eq (c : Dev nD) : V20 m (outs₂ m a₁ hchk) c = V20 m (outs₁ m) c := by
  simp only [V20, V19, outs₂, if_true]

include hT in
set_option backward.isDefEq.respectTransparency.types false in
/-- The run of the program, given that the tables the calls are given are `a₁`'s and that every group's rows are in range:
    the result array ends at what the grouped product leaves in it, the arguments as launched, the semaphores at zero. -/
theorem run (ρ : Dev nD → PrngReg) :
    θ_run defs (onTc (τ := τ) (main (F := F))) ⟨m, fun _ => 0, ρ⟩ (fun r => (∀ c : Dev nD,
      r.2.mem ((c.tc : Thread nD τ).loc main_v42) = left1 m a₁ hchk c (Proc.devRef .tc main_v42) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have key := run_cond (F := F) (U := UR sig nD τ) m emb₁ () Variants.none L lv (fun g hg => if_neg hg) ρ (outs₂ m a₁ hchk) (adms a₁) (pdats m a₁ hchk)
    (fun _ => 0) (fun _ => BI.emp)
    (initOf (Pipeline.cells (Pipeline.pin (pcfgs (F := F)) (adms a₁)) (cellOf_inj (adms a₁))) (Pipeline.launchToks (Pipeline.pin (pcfgs (F := F)) (adms a₁)) (cellOf_inj (adms a₁))))
    ?hu E ?hE (fun _ => .rfl) (R0 m a₁ hchk) ?p0 ?q0 (R1 m a₁ hchk hT) ?p1 ?q1
  · have e : ∀ c : Dev nD, left1 m a₁ hchk c (Proc.devRef .tc main_v42) = V21 m (outs₂ m a₁ hchk) c (Proc.devRef .tc main_v42) :=
      fun c => congrFun (left1_eq m a₁ hchk c) _
    simp only [e]
    exact key
  case hu =>
    iintro Hu; imodintro
    isplitl [Hu]
    · iapply (show (ownU (initOf (Pipeline.cells (Pipeline.pin (pcfgs (F := F)) (adms a₁)) (cellOf_inj (adms a₁))) (Pipeline.launchToks (Pipeline.pin (pcfgs (F := F)) (adms a₁)) (cellOf_inj (adms a₁)))) : sProp 𝕄) ⊢ BI.own (emb₁ (initOf (Pipeline.cells (Pipeline.pin (pcfgs (F := F)) (adms a₁)) (cellOf_inj (adms a₁))) (Pipeline.launchToks (Pipeline.pin (pcfgs (F := F)) (adms a₁)) (cellOf_inj (adms a₁))))) from .rfl)
      iexact Hu
    iapply (show (BI.emp : sProp 𝕄) ⊢ bigSep Finset.univ (fun _ : Dev nD => (BI.emp : sProp 𝕄)) from by rw [BI.bigSep_emp_const])
    iempintro
  case hE =>
    refine Pipeline.initEach L lv fun c => ?_
    iintro ⟨⟨-, HO, -, -, -⟩, -⟩
    imodintro
    iexists ∅
    iexact HO
  case p0 => exact fun c => BI.Entails.trans (to_pre (F := F) _ _) (pre0 m a₁ hchk c)
  case q0 =>
    intro c
    rw [← left0_eq]
    exact BI.Entails.trans (post0 m a₁ hchk c) (of_post (F := F) _ _)
  case p1 =>
    intro c
    rw [entry1_eq]
    exact BI.Entails.trans (to_pre (F := F) _ _) (enter1 m a₁ hchk hT c)
  case q1 =>
    intro c
    rw [← left1_eq]
    exact BI.Entails.trans (post1 m a₁ hchk hT c) (of_post (F := F) _ _)

end Cert.Kernel.Run

end
-- ==== Proof.Words.lean ====
/- The grouped product's row arithmetic at group bounds that fit the thousand and twenty-four rows: the first row rounded
   down, the number of row tiles, each tile's first row; and with them every check the body makes of its run-time words. -/
module

public import proofs.«01_k».proof.Proof.Body

@[expose] public section

set_option maxRecDepth 16384

noncomputable section

namespace Cert.Kernel.Matmul

open Cert.Kernel Cert.Kernel.Gen
open Idealize.ShloMosaic Idealize.ShloMosaic.TcCoe

/-- The number of row tiles of the group of rows `l ≤ r < h`. -/
def tripsOf (l h : ℕ) : ℕ := if l < h then (h - l / 32 * 32 + 255) / 256 else 0

/-- The first row of tile `t` of a group beginning at row `l`: tiles are 256 rows apart and the last one is pulled back to end at the last row. -/
def rowOf (l t : ℕ) : ℕ := min (l / 32 * 32 + t * 256) 768

/-- A group has at most four row tiles. -/
theorem tripsOf_le (l h : ℕ) (hh : h ≤ 1024) : tripsOf l h ≤ 4 := by
  unfold tripsOf; split <;> omega

/-- A tile of 256 rows from its first row lies within the rows. -/
theorem rowOf_le (l t : ℕ) : rowOf l t ≤ 768 := by unfold rowOf; omega

/-- A tile's first row is a multiple of 32. -/
theorem rowOf_dvd (l t : ℕ) : 32 ∣ rowOf l t := by unfold rowOf; omega

/-- The rounding down, by cases. -/
theorem base_fin : ∀ n : Fin 1025, base (BitVec.ofNat 32 n.val) = BitVec.ofNat 32 (n.val / 32 * 32) := by decide +kernel

/-- The first row rounded down to a multiple of 32. -/
theorem base_ofNat (l : ℕ) (hl : l ≤ 1024) : base (BitVec.ofNat 32 l) = BitVec.ofNat 32 (l / 32 * 32) := base_fin ⟨l, by omega⟩

/-- The signed division by 256 of a small number, by cases. -/
theorem div_fin : ∀ n : Fin 1280, Scalar.divsi (BitVec.ofNat 32 n.val) 256#32 = BitVec.ofNat 32 (n.val / 256) := by decide +kernel

/-- The end of the main loop, by cases. -/
theorem whole_fin : ∀ n : Fin 5, Scalar.addi 0#32 (Scalar.muli (Scalar.divsi (Scalar.subi (BitVec.ofNat 32 n.val) 0#32) 1#32) 1#32) = BitVec.ofNat 32 n.val := by decide +kernel

/-- The end of the loop over the rest, by cases. -/
theorem sum_fin : ∀ n : Fin 5, Scalar.addi 0#32 (Scalar.subi (BitVec.ofNat 32 n.val) 0#32) = BitVec.ofNat 32 n.val := by decide +kernel

/-- A tile's first row, by cases. -/
theorem row_fin : ∀ k : Fin 33, ∀ t : Fin 5, Scalar.minsi (Scalar.addi (BitVec.ofNat 32 (k.val * 32)) (Scalar.muli (Scf.iv 0#32 1#32 t) 256#32)) 768#32
    = BitVec.ofNat 32 (min (k.val * 32 + t.val * 256) 768) := by decide +kernel

/-- The main loop's trip count, by cases. -/
theorem loop_fin : ∀ n : Fin 5, (⟨0#32, BitVec.ofNat 32 n.val, 1#32⟩ : Scf.Loop 32).trips = n.val ∧ (⟨0#32, BitVec.ofNat 32 n.val, 1#32⟩ : Scf.Loop 32).OK := by decide +kernel

/-- The trip count of the loop over the rest, by cases. -/
theorem rest_fin : ∀ n : Fin 5, (⟨BitVec.ofNat 32 n.val, BitVec.ofNat 32 n.val, 1#32⟩ : Scf.Loop 32).trips = 0 ∧ (⟨BitVec.ofNat 32 n.val, BitVec.ofNat 32 n.val, 1#32⟩ : Scf.Loop 32).OK := by decide +kernel

/-- The number of row tiles as the body computes it. -/
theorem count_eq (l h : ℕ) (hl : l ≤ 1024) (hh : h ≤ 1024) :
    Scalar.select (Scalar.cmpi .sgt (BitVec.ofNat 32 h) (BitVec.ofNat 32 l))
      (Scalar.divsi (Scalar.addi (Scalar.subi (BitVec.ofNat 32 h) (base (BitVec.ofNat 32 l))) 255#32) 256#32) 0#32 = BitVec.ofNat 32 (tripsOf l h) := by
  have hsl : (BitVec.ofNat 32 l).toInt = l := by rw [BitVec.toInt_eq_toNat_cond, BitVec.toNat_ofNat]; split <;> omega
  have hsh : (BitVec.ofNat 32 h).toInt = h := by rw [BitVec.toInt_eq_toNat_cond, BitVec.toNat_ofNat]; split <;> omega
  have hc : Scalar.cmpi .sgt (BitVec.ofNat 32 h) (BitVec.ofNat 32 l) = BitVec.ofBool (decide (l < h)) := by
    show BitVec.ofBool (BitVec.slt (BitVec.ofNat 32 l) (BitVec.ofNat 32 h)) = _
    rw [BitVec.slt, hsl, hsh]; simp
  rw [hc, base_ofNat l hl]
  unfold tripsOf
  by_cases hlt : l < h
  · rw [if_pos hlt]
    have e : Scalar.addi (Scalar.subi (BitVec.ofNat 32 h) (BitVec.ofNat 32 (l / 32 * 32))) 255#32 = BitVec.ofNat 32 (h - l / 32 * 32 + 255) := by
      apply BitVec.eq_of_toNat_eq
      show ((BitVec.ofNat 32 h - BitVec.ofNat 32 (l / 32 * 32)) + 255#32).toNat = _
      simp only [BitVec.toNat_add, BitVec.toNat_sub, BitVec.toNat_ofNat]
      omega
    rw [e, div_fin ⟨h - l / 32 * 32 + 255, by omega⟩]
    simp [hlt, Scalar.select]
  · rw [if_neg hlt]
    simp [hlt, Scalar.select]

/-- The loop over the group's row tiles. -/
theorem loop1_eq (l h : ℕ) (hl : l ≤ 1024) (hh : h ≤ 1024) :
    k1_t1_loop (BitVec.ofNat 32 l) (BitVec.ofNat 32 h) = ⟨0#32, BitVec.ofNat 32 (tripsOf l h), 1#32⟩ := by
  have e := count_eq l h hl hh
  have e2 := whole_fin ⟨tripsOf l h, by have := tripsOf_le l h hh; omega⟩
  show (⟨0#32, Scalar.addi 0#32 (Scalar.muli (Scalar.divsi (Scalar.subi (Scalar.select (Scalar.cmpi .sgt (BitVec.ofNat 32 h) (BitVec.ofNat 32 l))
      (Scalar.divsi (Scalar.addi (Scalar.subi (BitVec.ofNat 32 h) (base (BitVec.ofNat 32 l))) 255#32) 256#32) 0#32) 0#32) 1#32) 1#32), 1#32⟩ : Scf.Loop 32) = _
  rw [e, e2]

/-- The loop over what the first leaves: nothing. -/
theorem loop2_eq (l h : ℕ) (hl : l ≤ 1024) (hh : h ≤ 1024) :
    k1_t2_loop (BitVec.ofNat 32 l) (BitVec.ofNat 32 h) = ⟨BitVec.ofNat 32 (tripsOf l h), BitVec.ofNat 32 (tripsOf l h), 1#32⟩ := by
  have e := count_eq l h hl hh
  have e2 := whole_fin ⟨tripsOf l h, by have := tripsOf_le l h hh; omega⟩
  have e3 := sum_fin ⟨tripsOf l h, by have := tripsOf_le l h hh; omega⟩
  show (⟨Scalar.addi 0#32 (Scalar.muli (Scalar.divsi (Scalar.subi (Scalar.select (Scalar.cmpi .sgt (BitVec.ofNat 32 h) (BitVec.ofNat 32 l))
      (Scalar.divsi (Scalar.addi (Scalar.subi (BitVec.ofNat 32 h) (base (BitVec.ofNat 32 l))) 255#32) 256#32) 0#32) 0#32) 1#32) 1#32),
    Scalar.addi 0#32 (Scalar.subi (Scalar.select (Scalar.cmpi .sgt (BitVec.ofNat 32 h) (BitVec.ofNat 32 l))
      (Scalar.divsi (Scalar.addi (Scalar.subi (BitVec.ofNat 32 h) (base (BitVec.ofNat 32 l))) 255#32) 256#32) 0#32) 0#32), 1#32⟩ : Scf.Loop 32) = _
  rw [e, e2, e3]

/-- The main loop runs once for each row tile. -/
theorem trips1 (l h : ℕ) (hl : l ≤ 1024) (hh : h ≤ 1024) : (k1_t1_loop (BitVec.ofNat 32 l) (BitVec.ofNat 32 h)).trips = tripsOf l h := by
  rw [loop1_eq l h hl hh]
  exact (loop_fin ⟨tripsOf l h, by have := tripsOf_le l h hh; omega⟩).1

/-- The loop over the rest does not run. -/
theorem trips2 (l h : ℕ) (hl : l ≤ 1024) (hh : h ≤ 1024) : (k1_t2_loop (BitVec.ofNat 32 l) (BitVec.ofNat 32 h)).trips = 0 := by
  rw [loop2_eq l h hl hh]
  exact (rest_fin ⟨tripsOf l h, by have := tripsOf_le l h hh; omega⟩).1

/-- A tile's first row, as a word. -/
theorem mult_eq (l h : ℕ) (hl : l ≤ 1024) (hh : h ≤ 1024) (t : Fin (k1_t1_loop (BitVec.ofNat 32 l) (BitVec.ofNat 32 h)).trips) :
    k1_mult1 (BitVec.ofNat 32 l) (BitVec.ofNat 32 h) t = BitVec.ofNat 32 (rowOf l t.val) := by
  have ht : t.val < 5 := by
    have h1 := t.isLt.trans_eq (trips1 l h hl hh)
    have := tripsOf_le l h hh
    omega
  have e := row_fin ⟨l / 32, by omega⟩ ⟨t.val, ht⟩
  show Scalar.minsi (Scalar.addi (base (BitVec.ofNat 32 l)) (Scalar.muli (Scf.iv 0#32 1#32 t) 256#32)) 768#32 = _
  rw [base_ofNat l hl]
  exact e

/-- A tile's first row, as a number. -/
theorem mult_toNat (l h : ℕ) (hl : l ≤ 1024) (hh : h ≤ 1024) (t : Fin (k1_t1_loop (BitVec.ofNat 32 l) (BitVec.ofNat 32 h)).trips) :
    (k1_mult1 (BitVec.ofNat 32 l) (BitVec.ofNat 32 h) t).toNat = rowOf l t.val := by
  rw [mult_eq l h hl hh, BitVec.toNat_ofNat]
  have := rowOf_le l t.val
  omega

/-- A chunk of a row tile of the codes lies in the array. -/
theorem inb_wide (r c : ℕ) (hr : r ≤ 768) (hc : c ≤ 14336) : ∀ a, (![r, c] : Fin 2 → ℕ) a + S256x2048.size a ≤ S1024x16384.size a := by
  intro a
  match a with
  | ⟨0, _⟩ => show r + 256 ≤ 1024; omega
  | ⟨1, _⟩ => show c + 2048 ≤ 16384; omega

/-- A row tile of the output lies in the block. -/
theorem inb_narrow (r : ℕ) (hr : r ≤ 768) : ∀ a, (![r, 0] : Fin 2 → ℕ) a + S256x512.size a ≤ S1024x512.size a := by
  intro a
  match a with
  | ⟨0, _⟩ => show r + 256 ≤ 1024; omega
  | ⟨1, _⟩ => show 0 + 512 ≤ 512; omega

/-- Every check the body makes holds at group bounds that fit the rows. -/
theorem chk_of_le (l h : ℕ) (hl : l ≤ 1024) (hh : h ≤ 1024) : k1_chk1 (BitVec.ofNat 32 l) (BitVec.ofNat 32 h) := by
  have hm := mult_toNat l h hl hh
  have hle : ∀ t, (k1_mult1 (BitVec.ofNat 32 l) (BitVec.ofNat 32 h) t).toNat ≤ 768 := fun t => (hm t).trans_le (rowOf_le l t.val)
  have hdv : ∀ t, 32 ∣ (k1_mult1 (BitVec.ofNat 32 l) (BitVec.ofNat 32 h) t).toNat := fun t => (hm t).symm ▸ rowOf_dvd l t.val
  have h0 := trips2 l h hl hh
  have no : ∀ t : Fin (k1_t2_loop (BitVec.ofNat 32 l) (BitVec.ofNat 32 h)).trips, False := fun t => by
    have := t.isLt.trans_eq h0
    omega
  have ok1 : (k1_t1_loop (BitVec.ofNat 32 l) (BitVec.ofNat 32 h)).OK := by
    rw [loop1_eq l h hl hh]
    exact (loop_fin ⟨tripsOf l h, by have := tripsOf_le l h hh; omega⟩).2
  have ok2 : (k1_t2_loop (BitVec.ofNat 32 l) (BitVec.ofNat 32 h)).OK := by
    rw [loop2_eq l h hl hh]
    exact (rest_fin ⟨tripsOf l h, by have := tripsOf_le l h hh; omega⟩).2
  refine ⟨ok1, hdv, fun t => inb_wide _ 0 (hle t) (by omega), fun t => inb_wide _ 2048 (hle t) (by omega), fun t => inb_wide _ 4096 (hle t) (by omega),
    fun t => inb_wide _ 6144 (hle t) (by omega), fun t => inb_wide _ 8192 (hle t) (by omega), fun t => inb_wide _ 10240 (hle t) (by omega),
    fun t => inb_wide _ 12288 (hle t) (by omega), fun t => inb_wide _ 14336 (hle t) (by omega), fun t => inb_narrow _ (hle t), ?_, ok2,
    fun t => (no t).elim, fun t => (no t).elim, fun t => (no t).elim, fun t => (no t).elim, fun t => (no t).elim, fun t => (no t).elim,
    fun t => (no t).elim, fun t => (no t).elim, fun t => (no t).elim, fun t => (no t).elim, fun t => (no t).elim⟩
  intro t hinb
  refine Or.inr ⟨le_refl _, rfl, Or.inl ⟨?_, ?_⟩⟩
  · show 2 ∣ (k1_mult1 (BitVec.ofNat 32 l) (BitVec.ofNat 32 h) t).toNat
    exact dvd_trans (by decide) (hdv t)
  · show 2 ∣ 256
    decide

end Cert.Kernel.Matmul

end
-- ==== Proof.Sizes.lean ====
module
public import proofs.«01_k».proof.Pre_sizes_fit
public import proofs.«01_k».proof.Proof.Gen.Pre_sizes_fit
public import Idealize.ShloMosaic.Lib.Routing.Ops
public import Idealize.ShloMosaic.Lib.Routing.OpsOne
public import Idealize.ShloMosaic.Lib.Routing.OpsSearch
public import Idealize.ShloMosaic.Lib.Claim
@[expose] public section
set_option maxRecDepth 16384
noncomputable section
namespace Cert.Sizes
open Idealize.ShloMosaic Idealize.ShloMosaic.ValueIdx Idealize.ShloMosaic.Routing

/-- The group sizes as plain numbers. -/
def size (gs : IVec (shape1 3) 32) (i : ℕ) : ℕ := if h : i < 3 then (gs (ix1 ⟨i, h⟩)).toNat else 0

/-- Where group `j` starts: the sum of the sizes before it. -/
def start (gs : IVec (shape1 3) 32) (j : ℕ) : ℕ := ((List.range j).map (size gs)).sum

/-- What the precondition says: the sizes sum to at most 1024. -/
def Fits (gs : IVec (shape1 3) 32) : Prop := start gs 3 ≤ 1024

/-- The word of a group's size is its number. -/
theorem word (gs : IVec (shape1 3) 32) (i : Fin 3) : gs (ix1 i) = BitVec.ofNat 32 (size gs i.val) := by
  unfold size
  rw [dif_pos i.isLt]
  simp

/-- A start is at most the next one. -/
theorem start_succ (gs : IVec (shape1 3) 32) (j : ℕ) : start gs (j + 1) = start gs j + size gs j := by
  simp [start, List.range_succ]

/-- Starts grow. -/
theorem start_mono (gs : IVec (shape1 3) 32) {i j : ℕ} (h : i ≤ j) : start gs i ≤ start gs j := by
  induction h with
  | refl => exact le_refl _
  | step _ ih => rw [start_succ]; omega

/-- No start passes 1024. -/
theorem start_le {gs : IVec (shape1 3) 32} (h : Fits gs) {j : ℕ} (hj : j ≤ 3) : start gs j ≤ 1024 :=
  (start_mono gs hj).trans h

/-- The conjunction of two truth values as one-bit words. -/
private theorem andi_ofBool (p q : Bool) : IntOp.andi (BitVec.ofBool p) (BitVec.ofBool q) = BitVec.ofBool (p && q) := by
  cases p <;> cases q <;> decide

/-- A truth value's one-bit word is one when it is true. -/
private theorem ofBool_eq_one (p : Bool) : (BitVec.ofBool p = 1#1) ↔ p = true := by
  cases p <;> decide

/-- One entry of the sizes, taken out as a scalar. -/
private theorem cell (gs : IVec (shape1 3) 32) (o : ℕ) (i : Fin 3) (hi : o = i.val) (h₁ : (shape1 3).Slices ![o] (shape1 1)) (h₂ : (shape1 1).ShapeCasts shape0) (j : shape0.Idx) :
    shapeCast shape0 (extractStridedSlice (shape1 1) ![o] gs h₁) h₂ j = gs (ix1 i) := by
  subst hi
  unfold shapeCast
  refine (congrArg (extractStridedSlice (shape1 1) ![i.val] gs h₁) (show _ = ix1 (0 : Fin 1) from ?_)).trans (slice1 i.val gs h₁ 0 (by have := i.isLt; simp))
  funext a
  match a with
  | ⟨0, _⟩ => exact Subsingleton.elim (α := Fin 1) _ _

/-- Joining one word and three: entry `k + 1` is the second vector's entry `k`. -/
theorem join_tail {α : Type} (x : (shape1 1).Idx → α) (y : (shape1 3).Idx → α) (hc : Shape.Concatenates [shape1 1, shape1 3] (shape1 4) 0) (k : Fin 3) :
    concatenate (shape1 4) 0 [⟨shape1 1, x⟩, ⟨shape1 3, y⟩] hc (ix1 k.succ) = y (ix1 k) := by
  match k with
  | ⟨0, _⟩ => exact Eq.trans (b := y _) rfl (congrArg y (funext fun a => by match a with | ⟨0, _⟩ => rfl))
  | ⟨1, _⟩ => exact Eq.trans (b := y _) rfl (congrArg y (funext fun a => by match a with | ⟨0, _⟩ => rfl))
  | ⟨2, _⟩ => exact Eq.trans (b := y _) rfl (congrArg y (funext fun a => by match a with | ⟨0, _⟩ => rfl))

/-- The precondition, read. -/
theorem fits_of_pre {F : FTy → Type} [FloatOps F] (x) (gs : IVec (shape1 3) 32) (xs wc ws)
    (h : Cert.Pre_sizes_fit.fn (F := F) x gs xs wc ws = fun _ => 1#1) : Fits gs := by
  have h0 := congrFun h (ix1 0)
  have h1 := congrFun h (ix1 1)
  have h2 := congrFun h (ix1 2)
  simp only [Cert.Pre_sizes_fit.fn, andi, cmpi, addi, broadcastInDim, constantI, IntOp.cmpi, andi_ofBool, ofBool_eq_one, Bool.and_eq_true] at h0 h1 h2
  have e := h0.2
  rw [show shapeCast Pre_sizes_fit.S_ (extractStridedSlice Pre_sizes_fit.S1 ![0] gs _) _ _ = _ from cell gs 0 0 rfl _ _ _,
    show shapeCast Pre_sizes_fit.S_ (extractStridedSlice Pre_sizes_fit.S1 ![1] gs _) _ _ = _ from cell gs 1 1 rfl _ _ _,
    show shapeCast Pre_sizes_fit.S_ (extractStridedSlice Pre_sizes_fit.S1 ![2] gs _) _ _ = _ from cell gs 2 2 rfl _ _ _] at e
  unfold Fits start
  simp only [List.range_succ, List.range_zero, List.nil_append, List.map_append, List.map_cons, List.map_nil, List.sum_append, List.sum_cons, List.sum_nil, size]
  have h0 := h0.1
  have h1 := h1.1
  have h2 := h2.1
  simp only [IntOp.addi, BitVec.sle, decide_eq_true_eq, BitVec.toInt, BitVec.toNat_ofNat, BitVec.toNat_add] at e h0 h1 h2
  simp
  omega

/-- The start table, as the program computes it, holds the starts. -/
theorem starts_word (gs : IVec (shape1 3) 32) (hb) (hc : Shape.Concatenates [shape1 1, shape1 3] (shape1 4) 0) (h) (hu) (j : Fin 4) :
    concatenate (shape1 4) 0 [⟨shape1 1, broadcastInDim (shape1 1) ![] hb (constantI shape0 32 0#32)⟩,
      ⟨shape1 3, Host.reduceWindow IntOp.addi ![3] ![1] ![2] ![0] gs
        (constantI shape0 32 0#32) h hu⟩] hc (ix1 j) = BitVec.ofNat 32 (start gs j.val) := by
  have hs := fun i : Fin 3 => cumsum1 (N := 3) (Nm1 := 2) rfl gs (size gs) (word gs) (constantI shape0 32 0#32) rfl h hu i
  match j with
  | ⟨0, _⟩ => exact Eq.trans (b := 0#32) rfl rfl
  | ⟨1, _⟩ => exact (join_tail _ _ hc 0).trans (hs 0)
  | ⟨2, _⟩ => exact (join_tail _ _ hc 1).trans (hs 1)
  | ⟨3, _⟩ => exact (join_tail _ _ hc 2).trans (hs 2)

/-- One step of the fold that finds the first set bit. -/
def firstSet (a b : BitVec 1 × BitVec 32) : BitVec 1 × BitVec 32 :=
  (Scalar.select (IntOp.ori (IntOp.cmpi .ugt a.1 b.1) (IntOp.cmpi .ne a.1 a.1)) a.1 b.1,
   Scalar.select (IntOp.ori (IntOp.ori (IntOp.cmpi .ugt a.1 b.1) (IntOp.cmpi .ne a.1 a.1)) (IntOp.andi (IntOp.cmpi .eq a.1 b.1) (IntOp.cmpi .slt a.2 b.2))) a.2 b.2)

/-- The weight block each group reads, from which groups hold rows: the group's own if it holds rows, else the last before it that does, else the first that does. -/
def blockOf (msk : IVec (shape1 3) 1) : IVec (shape1 3) 32 :=
  let last := Host.reduceWindow IntOp.maxsi ![3] ![1] ![2] ![0]
    (select msk (iotaInDim (shape1 3) 32 0) (broadcastInDim (shape1 3) ![] (by decide) (constantI shape0 32 4294967295#32)))
    (broadcastInDim shape0 ![] (by decide) (constantI shape0 32 2147483648#32)) (by decide) (by decide)
  select (cmpi .slt last (broadcastInDim (shape1 3) ![] (by decide) (constantI shape0 32 0#32)))
    (broadcastInDim (shape1 3) ![] (by decide)
      (fun j => (Host.reduce2 firstSet msk (iotaInDim (shape1 3) 32 0) (constantI shape0 1 0#1) (constantI shape0 32 0#32) (t := shape0) (axes := [0]) (by decide) (by decide) j).2))
    last

/-- Whatever groups hold rows, the block read is one of the three, and a group that holds rows reads its own. -/
theorem blockOf_bools : ∀ (a b c : Bool) (e : Fin 3), (blockOf (fun i => BitVec.ofBool (![a, b, c] (i 0))) (ix1 e)).toNat ≤ 2 ∧
    (![a, b, c] e = true → blockOf (fun i => BitVec.ofBool (![a, b, c] (i 0))) (ix1 e) = BitVec.ofNat 32 e.val) := by
  decide

/-- Which groups hold rows. -/
def holdsRows (hb : shape0.BroadcastsInDim (shape1 3) (![] : Fin 0 → Fin 1)) (gs : IVec (shape1 3) 32) : IVec (shape1 3) 1 :=
  cmpi .sgt gs (broadcastInDim (shape1 3) ![] hb (constantI shape0 32 0#32))

/-- The block a group reads is one of the three, and a group that holds rows reads its own. -/
theorem blockOf_holdsRows (hb) (gs : IVec (shape1 3) 32) (e : Fin 3) :
    (blockOf (holdsRows hb gs) (ix1 e)).toNat ≤ 2 ∧
      (0 < size gs e.val → size gs e.val ≤ 1024 → blockOf (holdsRows hb gs) (ix1 e) = BitVec.ofNat 32 e.val) := by
  have hm : holdsRows hb gs = fun i => BitVec.ofBool (![(0#32).slt (gs (ix1 0)), (0#32).slt (gs (ix1 1)), (0#32).slt (gs (ix1 2))] (i 0)) := by
    funext i
    rw [eq_ix1 i]
    match i 0 with
    | ⟨0, _⟩ => rfl
    | ⟨1, _⟩ => rfl
    | ⟨2, _⟩ => rfl
  rw [hm]
  refine ⟨(blockOf_bools _ _ _ e).1, fun h0 h1 => (blockOf_bools _ _ _ e).2 ?_⟩
  have hw := word gs e
  generalize size gs e.val = n at *
  have : (0#32).slt (gs (ix1 e)) = true := by
    rw [hw]
    simp only [BitVec.slt, decide_eq_true_eq, BitVec.toInt, BitVec.toNat_ofNat]
    omega
  match e with
  | ⟨0, _⟩ => exact this
  | ⟨1, _⟩ => exact this
  | ⟨2, _⟩ => exact this

end Cert.Sizes
end
-- ==== Proof.Tables.lean ====
/- The two tables the grouped product is given, read off the host's computation: where each group starts, and which
   weight block each group reads. With sizes that fit, every block and every row the product touches is in range, and the program's frame follows. -/
module

public import proofs.«01_k».proof.Proof.Run
public import proofs.«01_k».proof.Proof.Words
public import proofs.«01_k».proof.Proof.Sizes

@[expose] public section

set_option maxRecDepth 16384

noncomputable section

namespace Cert.Kernel.Run

open Cert.Kernel Cert.Kernel.Gen
open Idealize.ShloMosaic Idealize.ShloMosaic.TcCoe Idealize.SL.Sem
open Idealize.ShloMosaic.Routing (shape0 shape1)

variable {F : FTy → Type} [FloatOps F]
variable (m : (ℓ : Loc nD τ sig) → Buf (Elt F) ℓ)

/-- The group sizes the program is launched with. -/
abbrev sizes (c : Dev nD) : IVec (shape1 3) 32 := m ((c.tc : Thread nD τ).loc main_arg1)

/-- The table of starts as the host leaves it. -/
def startTab (gs : IVec (shape1 3) 32) : IVec S4 32 :=
  concatenate S4 0 [⟨S1, broadcastInDim S1 ![] bcast_S_S1 (constantI S_ 32 0#32)⟩,
    ⟨S3, Host.reduceWindow IntOp.addi ![3] ![1] ![2] ![0] gs (constantI S_ 32 0#32) reduceWindows_S3_S3_w3s1p2_0 h_S_⟩] concatenates_S1_S3_S4_d0

/-- The table of weight blocks as the host leaves it. -/
def blockTab (gs : IVec (shape1 3) 32) : IVec S3 32 := Sizes.blockOf (Sizes.holdsRows bcast_S_S3 gs)

/-- The host writes the table of starts. -/
theorem startTab_eq (c : Dev nD) : V3 m c (Proc.devRef .tc main_v2) = startTab (sizes m c) := by
  run_tidy
  rfl

/-- The host writes the table of weight blocks. -/
theorem blockTab_eq (c : Dev nD) : V17 m c (Proc.devRef .tc main_v31) = blockTab (sizes m c) := by
  run_tidy
  simp only [StableHlo.TRef.ofBuf, StableHlo.TRef.toBuf, cast_eq]
  rw [show (reducer_argmax_i1_i32 : BitVec 1 × BitVec 32 → BitVec 1 × BitVec 32 → BitVec 1 × BitVec 32) = Sizes.firstSet from rfl]
  rfl

/-- Both tables, as the calls are given them. -/
def tabs (c : Dev nD) : pre1.Contents (Elt F) := fun k => V18 m c (Proc.devRef .tc (pre1.ref k))

/-- The first table is the starts. -/
theorem tabs_0 (c : Dev nD) : tabs m c 0 = startTab (sizes m c) := by
  refine Eq.trans ?_ (startTab_eq m c)
  show V18 m c (Proc.devRef .tc main_v2) = _
  rw [V18_of m c main_v2 (by decide), V17_of m c main_v2 (by decide), V16_of m c main_v2 (by decide), V15_of m c main_v2 (by decide), V14_of m c main_v2 (by decide),
    V13_of m c main_v2 (by decide), V12_of m c main_v2 (by decide), V11_of m c main_v2 (by decide), V10_of m c main_v2 (by decide), V9_of m c main_v2 (by decide),
    V8_of m c main_v2 (by decide), V7_of m c main_v2 (by decide), V6_of m c main_v2 (by decide), V5_of m c main_v2 (by decide), V4_of m c main_v2 (by decide)]

/-- The second table is the weight blocks. -/
theorem tabs_1 (c : Dev nD) : tabs m c 1 = blockTab (sizes m c) := by
  refine Eq.trans ?_ (blockTab_eq m c)
  show V18 m c (Proc.devRef .tc main_v31) = _
  rw [V18_of m c main_v31 (by decide)]

/-- A word of the table of starts. -/
theorem startTab_word (gs : IVec (shape1 3) 32) (j : Fin 4) : startTab gs (ValueIdx.ix1 j) = BitVec.ofNat 32 (Sizes.start gs j.val) :=
  Sizes.starts_word gs _ _ _ _ j

/-- A word of the table of weight blocks. -/
theorem blockTab_le (gs : IVec (shape1 3) 32) (e : S3.Idx) : (blockTab gs e).toNat ≤ 2 := by
  rw [ValueIdx.eq_ix1 e]
  exact (Sizes.blockOf_holdsRows _ gs _).1

/-- The side condition on the tables holds when no weight block passes the third. -/
theorem ok_of_le (pf : pre1.Contents (Elt F)) (hb : ∀ (r : Rect S3) (h : r.shape.numel = 1), (pf.at 1 r h : BitVec 32).toNat ≤ 2) : ok1 pf := by
  refine ⟨fun i => ⟨fun a => ?_, .inr (Affine.block_words_rows (by decide) rfl)⟩, fun i => ⟨fun a => ?_, .inl rfl⟩⟩
  · have h0 := hb (Rect.unit (s := S3) (k1_off1 i) S1.size (k1_off1_inb i)) numel1_S1
    have h1 : (BitVec.ofNat 32 (i 0).val).toNat < 12 := by
      have := (i 0).isLt
      change (i 0).val < 12 at this
      simp only [BitVec.toNat_ofNat]
      omega
    match a with
    | ⟨0, _⟩ => exact (Nat.mul_one _).trans_le (Nat.succ_le_succ h0)
    | ⟨1, _⟩ => show (0 + 1) * 16384 ≤ 16384; omega
    | ⟨2, _⟩ => show ((BitVec.ofNat 32 (i 0).val).toNat + 1) * 512 ≤ 6144; omega
  · have h0 := hb (Rect.unit (s := S3) (k1_off1 i) S1.size (k1_off1_inb i)) numel1_S1
    have h1 : (BitVec.ofNat 32 (i 0).val).toNat < 12 := by
      have := (i 0).isLt
      change (i 0).val < 12 at this
      simp only [BitVec.toNat_ofNat]
      omega
    match a with
    | ⟨0, _⟩ => exact (Nat.mul_one _).trans_le (Nat.succ_le_succ h0)
    | ⟨1, _⟩ => show (0 + 1) * 1 ≤ 1; omega
    | ⟨2, _⟩ => show ((BitVec.ofNat 32 (i 0).val).toNat + 1) * 512 ≤ 6144; omega

/-- The side condition on the tables holds. -/
theorem tabs_ok (c : Dev nD) : ok1 (tabs m c) := by
  refine ok_of_le _ fun r h => ?_
  show (tabs m c 1 _).toNat ≤ 2
  rw [tabs_1]
  exact blockTab_le _ _

/-- The tables with their side condition. -/
def tables : (pcfg1 (F := F)).Adm := ⟨tabs m 0, tabs_ok m 0⟩

/-- The place a group's first row is read at. -/
theorem lo_place : ∀ i : grid1.Coords, (Rect.unit (s := S4) (k1_off2 i) S1.size (k1_off2_inb i)).idx (Shape.Idx.first (s := S1) (numel1_S1.symm ▸ Nat.one_pos))
    = ValueIdx.ix1 (⟨(i 1).val, Nat.lt_trans (i 1).isLt (by decide)⟩ : Fin 4) := by
  decide +kernel

/-- The place the row past a group's last is read at. -/
theorem hi_place : ∀ i : grid1.Coords, (Rect.unit (s := S4) (k1_off3 i) S1.size (k1_off3_inb i)).idx (Shape.Idx.first (s := S1) (numel1_S1.symm ▸ Nat.one_pos))
    = ValueIdx.ix1 (⟨(i 1).val + 1, Nat.succ_lt_succ (i 1).isLt⟩ : Fin 4) := by
  decide +kernel

/-- A grid point's group starts at its start. -/
theorem lo_eq (i : grid1.Coords) : Matmul.lo i (Matmul.starts (tables m)) = BitVec.ofNat 32 (Sizes.start (sizes m 0) (i 1).val) := by
  show View.ld (tabs m 0 0) _ _ = _
  rw [tabs_0]
  exact (congrArg (startTab (sizes m 0)) (lo_place i)).trans (startTab_word _ _)

/-- A grid point's group ends at the next start. -/
theorem hi_eq (i : grid1.Coords) : Matmul.hi i (Matmul.starts (tables m)) = BitVec.ofNat 32 (Sizes.start (sizes m 0) ((i 1).val + 1)) := by
  show View.ld (tabs m 0 0) _ _ = _
  rw [tabs_0]
  exact (congrArg (startTab (sizes m 0)) (hi_place i)).trans (startTab_word _ _)

/-- The rows the product touches are in range. -/
theorem rows_ok (h : Sizes.Fits (sizes m 0)) (i : grid1.Coords) : k1_chk1 (Matmul.lo i (Matmul.starts (tables m))) (Matmul.hi i (Matmul.starts (tables m))) := by
  rw [lo_eq, hi_eq]
  have := (i 1).isLt
  change (i 1).val < 3 at this
  exact Matmul.chk_of_le _ _ (Sizes.start_le h (by omega)) (Sizes.start_le h (by omega))

/-- The tables stay as they are until the product is called. -/
theorem tables_at (c : Dev nD) (k) : (tables m).1 k = V20 m (outs₁ m) c (Proc.devRef .tc (pre1.ref k)) := by
  obtain rfl : c = 0 := Subsingleton.elim _ _
  show V18 m 0 (Proc.devRef .tc (pre1.ref k)) = _
  match k with
  | ⟨0, _⟩ => exact ((V20_of m (outs₁ m) 0 main_v2 (by decide)).trans (V19_of m (outs₁ m) 0 main_v2 (by decide))).symm
  | ⟨1, _⟩ => exact ((V20_of m (outs₁ m) 0 main_v31 (by decide)).trans (V19_of m (outs₁ m) 0 main_v31 (by decide))).symm

/-- The run of the program from sizes that fit. -/
theorem run_fit (h : Sizes.Fits (sizes m 0)) (ρ : Dev nD → PrngReg) :
    θ_run defs (onTc (τ := τ) (main (F := F))) ⟨m, fun _ => 0, ρ⟩ (fun r => (∀ c : Dev nD,
      r.2.mem ((c.tc : Thread nD τ).loc main_v42) = left1 m (tables m) (rows_ok m h) c (Proc.devRef .tc main_v42) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  run m (tables m) (rows_ok m h) (fun c k => tables_at m c k) ρ

end Cert.Kernel.Run

end
-- ==== Proof.Ideal.Quantise.lean ====
/- The quantising call: what one grid point leaves in its output block (`codesBlock`), the triple of the
   printed body, and the pipeline's proof data over any contents `W` of the core's buffers at the region's entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Tactic

@[expose] public section

set_option maxRecDepth 16384

noncomputable section

namespace Cert.KernelIdeal.Quantise

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))

/-- The rectangle of a whole block of rows, and that of a whole block of row scales. -/
abbrev rows : Rect S32x16384 := Rect.unit (s := S32x16384) ![0, 0] S32x16384.size inb_S32x16384_S32x16384_0_0
/-- The scales of a block of 32 rows. -/
abbrev scales : Rect S32x1 := Rect.unit (s := S32x1) ![0, 0] S32x1.size inb_S32x1_S32x1_0_0

/-- The block of codes the body leaves, of the block of rows and the block of row scales. -/
def codesBlock (x : Vec F S32x16384 .bf16) (s : Vec F S32x1 .f32) : Vec F S32x16384 .fp8e4m3 :=
  View.canon [⟨rows, k0_pay1 (View.ld x rows) (View.ld s scales)⟩]

/-- The one store covers the block. -/
theorem cover (p : Vec F S32x16384 .fp8e4m3) (y : S32x16384.Idx) :
    ∃ pc ∈ ([⟨rows, p⟩] : List (View.Piece (Elt F) S32x16384 .fp8e4m3)), y ∈ pc.1.set :=
  View.cover_of_tiled [⟨rows, p⟩] S32x16384.size (by rfl) y

set_option maxHeartbeats 1000000 in
/-- The quantising body keeps its two inputs and leaves `codesBlock` of them in its output block. -/
theorem sound_kernel (c : Dev nD) (E : Set ℕ) (i : grid0.Coords) (arg1 : Memref sig .tc .vmem S32x16384 .bf16) (harg1 : arg1.IsWhole)
    (arg2 : Memref sig .tc .vmem S32x1 .f32) (harg2 : arg2.IsWhole) (arg3 : Memref sig .tc .vmem S32x16384 .fp8e4m3) (harg3 : arg3.IsWhole)
    (x0 : Vec F S32x16384 .bf16) (x1 : Vec F S32x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (codesBlock x0 x1)) -∗ K ⟨⟩))
      ⊢ wp frame (wpE (defs₀ (F := F)) Variants.none c none) E (cc0_quantise i arg1 harg1 arg2 harg2 arg3 harg3) K := by
  simp only [cc0_quantise_eq_skeleton]; unfold cc0_quantise_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover _)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

/-- What the body finds in the rows' window: the array's block. -/
theorem before0_of {c : Dev nD} (dat : Dat τ (Elt F) Unit ℕ (UR sig nD τ) ℕ cfg0 c) (hA : dat.A 0 = W c (Pipeline.arrRef spec0 0))
    (hafter : ∀ t, dat.after 0 t = iblk W c 0 t) (t : Fin cfg0.N) (d) : dat.before 0 t d = iblk W c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- What the body finds in the scales' window: the array's block. -/
theorem before1_of {c : Dev nD} (dat : Dat τ (Elt F) Unit ℕ (UR sig nD τ) ℕ cfg0 c) (hA : dat.A 1 = W c (Pipeline.arrRef spec0 1))
    (hafter : ∀ t, dat.after 1 t = iblk W c 1 t) (t : Fin cfg0.N) (d) : dat.before 1 t d = iblk W c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The proof data of the quantising pipeline: inputs keep their blocks, the output is `codesBlock` of them. -/
def dat (c : Dev nD) : Dat τ (Elt F) Unit ℕ (UR sig nD τ) ℕ cfg0 c where
  A w := W c (Pipeline.arrRef spec0 w)
  after w t := match w with
    | ⟨0, _⟩ => iblk W c 0 t
    | ⟨1, _⟩ => iblk W c 1 t
    | ⟨2, _⟩ => codesBlock (iblk W c 0 t) (iblk W c 1 t)
  Φ _ := Pipeline.scopedRest spec0 c
  q _ := fullShare
  owed _ := 0

/-- Before the region each window's array is what the host left there. -/
theorem A_eq (c : Dev nD) (w : Fin cfg0.W) : (dat W c).A w = W c (Pipeline.arrRef spec0 w) := by
  dsimp only [dat]
/-- The body keeps the rows. -/
theorem after_0 (c : Dev nD) (t : Fin cfg0.N) : (dat W c).after 0 t = iblk W c 0 t := by dsimp only [dat]
/-- The body keeps the scales. -/
theorem after_1 (c : Dev nD) (t : Fin cfg0.N) : (dat W c).after 1 t = iblk W c 1 t := by dsimp only [dat]
/-- The body leaves the codes of the rows at the scales. -/
theorem after_2 (c : Dev nD) (t : Fin cfg0.N) : (dat W c).after 2 t = codesBlock (iblk W c 0 t) (iblk W c 1 t) := by dsimp only [dat]
/-- What the body finds in the rows' window. -/
theorem before_0 (c : Dev nD) (t : Fin cfg0.N) (d) : (dat W c).before 0 t d = iblk W c 0 t :=
  before0_of W (dat W c) (A_eq W c 0) (after_0 W c) t d
/-- What the body finds in the scales' window. -/
theorem before_1 (c : Dev nD) (t : Fin cfg0.N) (d) : (dat W c).before 1 t d = iblk W c 1 t :=
  before1_of W (dat W c) (A_eq W c 1) (after_1 W c) t d

/-- What the body is called with at point `t`, and what it returns. -/
def bodyPre (c : Dev nD) (t : Fin cfg0.N) : sProp 𝕄 :=
  iprop((dat W c).Φ t.castSucc ∗ (dat W c).owesAt () t.castSucc
    ∗ (∃ d, owns (c : Thread nD τ) (st0_0 t) fullShare ((dat W c).before 0 t d))
    ∗ (∃ d, owns (c : Thread nD τ) (st0_1 t) fullShare ((dat W c).before 1 t d))
    ∗ (∃ d, owns (c : Thread nD τ) (st0_2 t) fullShare ((dat W c).before 2 t d)))
/-- What holds after the body at one grid point. -/
def bodyPost (c : Dev nD) (t : Fin cfg0.N) : sProp 𝕄 :=
  iprop((dat W c).Φ t.succ ∗ (dat W c).owesAt () t.succ
    ∗ owns (c : Thread nD τ) (st0_0 t) fullShare ((dat W c).after 0 t)
    ∗ owns (c : Thread nD τ) (st0_1 t) fullShare ((dat W c).after 1 t)
    ∗ owns (c : Thread nD τ) (st0_2 t) fullShare ((dat W c).after 2 t))

/-- The body at one grid point, from what it finds to what it leaves. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before_0, before_1]
  rw [show (dat W c).Φ t.succ = (dat W c).Φ t.castSucc from rfl,
    show (dat W c).owesAt () t.succ = (dat W c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk W c 0 t) (iblk W c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's definition at one grid point. -/
theorem defs₀_row (t : Fin cfg0.N) :
    defs₀ (F := F) .tc cfg0.body (cfg0.bodyArgs t (cfg0.slots t)) = bodyAt0 t := by
  unfold defs₀; rw [Defs.onTc_tc]

/-- The body obligation of the quantising pipeline, at every point. -/
theorem body_obligation (c : Dev nD) : BodyObligation (dat (F := F) W c) (defs₀ (F := F)) Variants.none () Set.univ := fun t => by
  rw [bigSep_W0, bigSep_W0, defs₀_row]
  exact triple_restated (sound_body W c t) rfl .rfl fun _ => .rfl

end Cert.KernelIdeal.Quantise

end
-- ==== Proof.Ideal.Tile.lean ====
/- One row tile of the grouped product: the sum of the eight dots over chunks of the contracted axis (`acc`), what
   the tile writes over the output block (`tile`), and the tiles of one group in turn (`tiles`). The counted loop of
   the printed body leaves exactly that (`read_tiles`). -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Pure

variable (x4 : Vec F S1024x16384 .fp8e4m3) (x5 : Vec F S1x16384x512 .fp8e4m3) (v1 v4 : BitVec 32) (hw : k1_chk1 v1 v4)

/-- The accumulator after the eight chunks, for the rows of trip `k`. -/
def acc (k : Fin (k1_t1_loop v1 v4).trips) : FVec F S256x512 .f32 :=
  k1_pay12 (View.ld x4 (Rect.unit (s := S1024x16384) (k1_off11 v1 v4 k) S256x2048.size (k1_off11_inb v1 v4 hw k)))
      (View.ld x5 (Rect.unit (s := S1x16384x512) ![0, 14336, 0] S1x2048x512.size inb_S1x16384x512_S1x2048x512_0_14336_0)) <|
  k1_pay11 (View.ld x4 (Rect.unit (s := S1024x16384) (k1_off10 v1 v4 k) S256x2048.size (k1_off10_inb v1 v4 hw k)))
      (View.ld x5 (Rect.unit (s := S1x16384x512) ![0, 12288, 0] S1x2048x512.size inb_S1x16384x512_S1x2048x512_0_12288_0)) <|
  k1_pay10 (k1_pay9 (View.ld x4 (Rect.unit (s := S1024x16384) (k1_off9 v1 v4 k) S256x2048.size (k1_off9_inb v1 v4 hw k)))
      (View.ld x5 (Rect.unit (s := S1x16384x512) ![0, 10240, 0] S1x2048x512.size inb_S1x16384x512_S1x2048x512_0_10240_0))) <|
  k1_pay8 (View.ld x4 (Rect.unit (s := S1024x16384) (k1_off8 v1 v4 k) S256x2048.size (k1_off8_inb v1 v4 hw k)))
      (View.ld x5 (Rect.unit (s := S1x16384x512) ![0, 8192, 0] S1x2048x512.size inb_S1x16384x512_S1x2048x512_0_8192_0)) <|
  k1_pay7 (View.ld x4 (Rect.unit (s := S1024x16384) (k1_off7 v1 v4 k) S256x2048.size (k1_off7_inb v1 v4 hw k)))
      (View.ld x5 (Rect.unit (s := S1x16384x512) ![0, 6144, 0] S1x2048x512.size inb_S1x16384x512_S1x2048x512_0_6144_0)) <|
  k1_pay6 <|
  k1_pay5 (View.ld x4 (Rect.unit (s := S1024x16384) (k1_off6 v1 v4 k) S256x2048.size (k1_off6_inb v1 v4 hw k)))
      (View.ld x5 (Rect.unit (s := S1x16384x512) ![0, 4096, 0] S1x2048x512.size inb_S1x16384x512_S1x2048x512_0_4096_0)) <|
  k1_pay4 (View.ld x4 (Rect.unit (s := S1024x16384) (k1_off5 v1 v4 k) S256x2048.size (k1_off5_inb v1 v4 hw k)))
      (View.ld x5 (Rect.unit (s := S1x16384x512) ![0, 2048, 0] S1x2048x512.size inb_S1x16384x512_S1x2048x512_0_2048_0)) <|
  k1_pay3 (View.ld x4 (Rect.unit (s := S1024x16384) (k1_off4 v1 v4 k) S256x2048.size (k1_off4_inb v1 v4 hw k)))
      (View.ld x5 (Rect.unit (s := S1x16384x512) ![0, 0, 0] S1x2048x512.size inb_S1x16384x512_S1x2048x512_0_0_0))

/-- What trip `k` stores, of the output block `o` it finds: the scaled accumulator in the group's rows, `o` elsewhere. -/
def stored (v22 : BitVec 32) (v33 : FVec F S1x512 .f32) (c0 : BitVec 32) (k : Fin (k1_t1_loop v1 v4).trips)
    (o : Vec F S1024x512 .bf16) : FVec F S256x512 .bf16 :=
  k1_pay1 v33 (k1_pay13 (F := F) v1 v4 (Scalar.minsi (Scalar.addi v22 (Scalar.muli (Scf.iv c0 1#32 k) 256#32)) 768#32))
    (View.ld o (Rect.unit (s := S1024x512) (k1_off12 v1 v4 k) S256x512.size (k1_off12_inb v1 v4 hw k)))
    (acc x4 x5 v1 v4 hw k)

/-- The output block after trip `k` on the block `o`. -/
def tile (v22 : BitVec 32) (v33 : FVec F S1x512 .f32) (c0 : BitVec 32) (k : Fin (k1_t1_loop v1 v4).trips)
    (o : Vec F S1024x512 .bf16) : Vec F S1024x512 .bf16 :=
  VecWindow.put o (k1_off12 v1 v4 k) S256x512.size (stored x4 x5 v1 v4 hw v22 v33 c0 k o)

/-- The output block after the first `n` trips on the block `o`. -/
def tiles (v22 : BitVec 32) (v33 : FVec F S1x512 .f32) (c0 : BitVec 32) (o : Vec F S1024x512 .bf16) : ℕ → Vec F S1024x512 .bf16
  | 0 => o
  | n + 1 => if h : n < (k1_t1_loop v1 v4).trips then tile x4 x5 v1 v4 hw v22 v33 c0 ⟨n, h⟩ (tiles v22 v33 c0 o n)
      else tiles v22 v33 c0 o n

/-- One row tile more: the tile over what the tiles before it leave. -/
theorem tiles_succ (v22 : BitVec 32) (v33 : FVec F S1x512 .f32) (c0 : BitVec 32) (o : Vec F S1024x512 .bf16) (n : ℕ)
    (h : n < (k1_t1_loop v1 v4).trips) :
    tiles x4 x5 v1 v4 hw v22 v33 c0 o (n + 1) = tile x4 x5 v1 v4 hw v22 v33 c0 ⟨n, h⟩ (tiles x4 x5 v1 v4 hw v22 v33 c0 o n) := by
  rw [tiles, dif_pos h]

end Pure

section Trip

variable (𝒱 : Variants) (c : Dev nD) (bd : Option 𝒱.V) (i : grid1.Coords)
  (arg2 : Memref sig .tc .smem S4 .i32) (harg2 : arg2.IsWhole) (arg3 : Memref sig .tc .smem S3 .i32) (harg3 : arg3.IsWhole)
  (arg4 : Memref sig .tc .vmem S1024x16384 .fp8e4m3) (harg4 : arg4.IsWhole) (arg5 : Memref sig .tc .vmem S1x16384x512 .fp8e4m3) (harg5 : arg5.IsWhole)
  (arg6 : Memref sig .tc .smem S3 .f32) (harg6 : arg6.IsWhole) (arg7 : Memref sig .tc .vmem S1x1x512 .f32) (harg7 : arg7.IsWhole)
  (arg8 : Memref sig .tc .vmem S1024x512 .bf16) (harg8 : arg8.IsWhole) (arg9 : Memref sig .tc .vmem S256x512 .f32) (harg9 : arg9.IsWhole)
  (v1 v4 : Elt F .i32) (hw : k1_chk1 v1 v4) (v22 : BitVec 32) (v33 : FVec F S1x512 .f32) (c0 : BitVec 32)
  (X4 : BufTy.Contents (Elt F) arg4.view.ty) (X5 : BufTy.Contents (Elt F) arg5.view.ty)

set_option maxHeartbeats 400000 in
/-- The one piece a trip writes into the output block is `stored`. -/
theorem trip_pieces (k : Fin (k1_t1_loop v1 v4).trips) (f8 : BufTy.Contents (Elt F) arg8.view.ty) (f9 : BufTy.Contents (Elt F) arg9.view.ty) :
    (trip_k1_t1 (F := F) 𝒱 c bd i arg2 harg2 arg3 harg3 arg4 harg4 arg5 harg5 arg6 harg6 arg7 harg7 arg8 harg8 arg9 harg9 v1 v4 hw v22 v33 c0 X4 X5 k).1 f8 f9
      = [⟨Rect.unit (s := S1024x512) (k1_off12 v1 v4 k) S256x512.size (k1_off12_inb v1 v4 hw k),
          stored (arg4.view.read (Elt F) X4) (arg5.view.read (Elt F) X5) v1 v4 hw v22 v33 c0 k (arg8.view.read (Elt F) f8)⟩] := by
  unfold trip_k1_t1 stored acc
  dsimp only
  simp only [trip_k1_t1.sl.v144, trip_k1_t1.sl.HW_arg9_8, trip_k1_t1.sl.v127, trip_k1_t1.sl.HW_arg9_7, trip_k1_t1.sl.v116, trip_k1_t1.sl.HW_arg9_6, trip_k1_t1.sl.v105, trip_k1_t1.sl.HW_arg9_5, trip_k1_t1.sl.v94, trip_k1_t1.sl.HW_arg9_4, trip_k1_t1.sl.v83, trip_k1_t1.sl.HW_arg9_3, trip_k1_t1.sl.r, trip_k1_t1.sl.v72, trip_k1_t1.sl.HW_arg9_2, trip_k1_t1.sl.v61, trip_k1_t1.sl.HW_arg9_1, trip_k1_t1.sl.r_1, trip_k1_t1.sl.r_2, trip_k1_t1.sl.v44, trip_k1_t1.sl.v43, trip_k1_t1.sl.v42, trip_k1_t1.sl.arg10, View.readAt_eq_ld,
    View.readCov_cons_toLoadRect]

/-- The counted loop, read back: the trips before `n` leave `tiles` of what the output block read as before. -/
theorem read_tiles (G8 : BufTy.Contents (Elt F) arg8.view.ty) (G9 : BufTy.Contents (Elt F) arg9.view.ty) (n : ℕ) (hn : n ≤ (k1_t1_loop v1 v4).trips) :
    arg8.view.read (Elt F) (arg8.view.writes (Elt F) G8
        (pb_k1_t1 (F := F) 𝒱 c bd i arg2 harg2 arg3 harg3 arg4 harg4 arg5 harg5 arg6 harg6 arg7 harg7 arg8 harg8 arg9 harg9 v1 v4 hw v22 v33 c0 X4 X5 G8 G9 n).1)
      = tiles (arg4.view.read (Elt F) X4) (arg5.view.read (Elt F) X5) v1 v4 hw v22 v33 c0 (arg8.view.read (Elt F) G8) n := by
  induction n with
  | zero => rfl
  | succ n ih =>
    have h : n < (k1_t1_loop v1 v4).trips := hn
    have e := pb_k1_t1_succ (F := F) 𝒱 c bd i arg2 harg2 arg3 harg3 arg4 harg4 arg5 harg5 arg6 harg6 arg7 harg7 arg8 harg8 arg9 harg9 v1 v4 hw v22 v33 c0 X4 X5 G8 G9 ⟨n, h⟩
    dsimp only at e
    rw [e]
    dsimp only
    rw [trip_pieces, List.singleton_append, View.read_writes_cons_put _ _ _ _ _ rfl, ih (le_of_lt h)]
    exact (tiles_succ _ _ v1 v4 hw v22 v33 c0 _ n h).symm

end Trip

end Cert.KernelIdeal.Matmul

end
-- ==== Proof.Ideal.Body.lean ====
/- The triple of the printed grouped-product body at one grid point: given that the two group bounds it reads off the
   table pass the printed side condition, it keeps its inputs and leaves `blockOut` in the output block. -/
module

public import proofs.«01_k».proof.Proof.Ideal.Tile
public import Idealize.ShloMosaic.Lib.Claim
public import Idealize.ShloMosaic.Lib.LoopRemainder

@[expose] public section

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first row of group `i 1`, and the row after its last, as the body reads them off the table of starts. -/
def lo (i : grid1.Coords) (xs : Vec F S4 .i32) : BitVec 32 :=
  View.ld xs (Rect.unit (s := S4) (k1_off2 i) S1.size (k1_off2_inb i)) (Shape.Idx.first (s := S1) (numel1_S1.symm ▸ Nat.one_pos))
/-- The table's entry after the group's own: the row at which the group ends. -/
def hi (i : grid1.Coords) (xs : Vec F S4 .i32) : BitVec 32 :=
  View.ld xs (Rect.unit (s := S4) (k1_off3 i) S1.size (k1_off3_inb i)) (Shape.Idx.first (s := S1) (numel1_S1.symm ▸ Nat.one_pos))
/-- The activation scale of group `i 1`. -/
def xsc (i : grid1.Coords) (x6 : Vec F S3 .f32) : Elt F .f32 :=
  View.ld x6 (Rect.unit (s := S3) (k1_off1 i) S1.size (k1_off1_inb i)) (Shape.Idx.first (s := S1) (numel1_S1.symm ▸ Nat.one_pos))

/-- The first row rounded down to a multiple of 32, as the body computes it. -/
def base (v1 : BitVec 32) : BitVec 32 :=
  Scalar.muli (Scalar.select (Scalar.andi
    (Scalar.cmpi .ne (Scalar.subi (Scalar.extui (Scalar.cmpi .sgt v1 0#32)) (Scalar.extui (Scalar.cmpi .slt v1 0#32)))
      1#32)
    (Scalar.cmpi .ne (Scalar.remsi v1 32#32) 0#32)) (Scalar.subi (Scalar.divsi v1 32#32) 1#32) (Scalar.divsi v1 32#32)) 32#32

/-- Whether the grid point is the first group of its column tile, as the body tests it. -/
abbrev isFirst (i : grid1.Coords) : Prop :=
  Scalar.cmpi .ne (Scalar.extui (Scalar.cmpi .eq (BitVec.ofNat 32 (i 1).val) 0#32) : BitVec 32) 0#32 = 1#1

/-- The output block after the grid point, of the starts table, codes, weights, scales and the block found (zeroed first at the first group). -/
def blockOut (i : grid1.Coords) (xs : Vec F S4 .i32) (hw : k1_chk1 (lo i xs) (hi i xs)) (x4 : Vec F S1024x16384 .fp8e4m3)
    (x5 : Vec F S1x16384x512 .fp8e4m3) (x6 : Vec F S3 .f32) (x7 : Vec F S1x1x512 .f32) (o : Vec F S1024x512 .bf16) : Vec F S1024x512 .bf16 :=
  tiles x4 x5 (lo i xs) (hi i xs) hw (base (lo i xs)) (k1_pay25 (xsc i x6) x7) 0#32
    (if isFirst i then k1_pay26 else o) (k1_t1_loop (lo i xs) (hi i xs)).trips

set_option maxHeartbeats 1000000 in
/-- The body at the first group of a column tile: the output block is zeroed first. -/
theorem sound_first (c : Dev nD) (E : Set ℕ) (i : grid1.Coords) (hi1 : isFirst i) (q : PosShare TreeShare)
    (arg2 : Memref sig .tc .smem S4 .i32) (harg2 : arg2.IsWhole) (arg3 : Memref sig .tc .smem S3 .i32) (harg3 : arg3.IsWhole)
    (arg4 : Memref sig .tc .vmem S1024x16384 .fp8e4m3) (harg4 : arg4.IsWhole) (arg5 : Memref sig .tc .vmem S1x16384x512 .fp8e4m3) (harg5 : arg5.IsWhole)
    (arg6 : Memref sig .tc .smem S3 .f32) (harg6 : arg6.IsWhole) (arg7 : Memref sig .tc .vmem S1x1x512 .f32) (harg7 : arg7.IsWhole)
    (arg8 : Memref sig .tc .vmem S1024x512 .bf16) (harg8 : arg8.IsWhole) (arg9 : Memref sig .tc .vmem S256x512 .f32) (harg9 : arg9.IsWhole)
    (xs : Vec F S4 .i32) (hw : k1_chk1 (lo i xs) (hi i xs)) (x4 : Vec F S1024x16384 .fp8e4m3)
    (x5 : Vec F S1x16384x512 .fp8e4m3) (x6 : Vec F S3 .f32) (x7 : Vec F S1x1x512 .f32) (o : Vec F S1024x512 .bf16) (K : PUnit → sProp 𝕄) :
    iprop(owns (c : Thread nD τ) arg2 q xs ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare o
        ∗ (∃ d, owns (c : Thread nD τ) arg9 fullShare d)
        ∗ (iprop(owns (c : Thread nD τ) arg2 q xs ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (blockOut i xs hw x4 x5 x6 x7 o)
            ∗ (∃ d, owns (c : Thread nD τ) arg9 fullShare d)) -∗ K ⟨⟩))
      ⊢ wp frame (wpE (defs₀ (F := F)) Variants.none c none) E
          (cc1_grouped_matmul i arg2 harg2 arg3 harg3 arg4 harg4 arg5 harg5 arg6 harg6 arg7 harg7 arg8 harg8 arg9 harg9) K := by
  simp only [cc1_grouped_matmul_eq_skeleton]; unfold cc1_grouped_matmul_skel
  simp only [k1_part7_eq_skeleton]
  unfold owns
  iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf2 hf4 hf5 hf6 hf7 hf8
  sl_exec
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.writes_append]
    refine (read_tiles (F := F) _ c _ i arg2 harg2 arg3 harg3 arg4 harg4 arg5 harg5 arg6 harg6 arg7 harg7 arg8 harg8 arg9 harg9
      _ _ hw _ _ _ _ _ _ _ _ le_rfl).trans ?_
    unfold blockOut sound_first.sl.H8_1
    rw [if_pos hi1, View.read_writes_full]
    have e1 : sound_first.sl.v22 c i arg2 f2 = base (lo i (arg2.view.read (Elt F) f2)) := by
      delta sound_first.sl.v22 sound_first.sl.v21 sound_first.sl.v20 sound_first.sl.v19 sound_first.sl.v18 sound_first.sl.v17 sound_first.sl.v16 sound_first.sl.v10 sound_first.sl.v9 sound_first.sl.v8 sound_first.sl.v7 sound_first.sl.v6 sound_first.sl.v5 sound_first.sl.r base lo
      simp only [View.readAt_eq_ld]
    have e2 : sound_first.sl.r_3 c i arg6 arg7 f6 f7 = k1_pay25 (xsc i (arg6.view.read (Elt F) f6)) (arg7.view.read (Elt F) f7) := by
      delta sound_first.sl.r_3 sound_first.sl.r_2 xsc
      rw [View.readAt_eq_ld, View.readAt_eq_ld]
      congr 1
      exact (View.readAt_eq_ld _ _ _).symm.trans (View.readAt_full arg7.view f7 inb_S1x1x512_S1x1x512_0_0_0)
    rw [e1, e2]
  iexists _; iexists _; isplitr
  swap; · iexact H9
  ipureintro; rfl

set_option maxHeartbeats 1000000 in
/-- The body at a later group of a column tile: it works on the block the groups before it left. -/
theorem sound_later (c : Dev nD) (E : Set ℕ) (i : grid1.Coords) (hi1 : ¬ isFirst i) (q : PosShare TreeShare)
    (arg2 : Memref sig .tc .smem S4 .i32) (harg2 : arg2.IsWhole) (arg3 : Memref sig .tc .smem S3 .i32) (harg3 : arg3.IsWhole)
    (arg4 : Memref sig .tc .vmem S1024x16384 .fp8e4m3) (harg4 : arg4.IsWhole) (arg5 : Memref sig .tc .vmem S1x16384x512 .fp8e4m3) (harg5 : arg5.IsWhole)
    (arg6 : Memref sig .tc .smem S3 .f32) (harg6 : arg6.IsWhole) (arg7 : Memref sig .tc .vmem S1x1x512 .f32) (harg7 : arg7.IsWhole)
    (arg8 : Memref sig .tc .vmem S1024x512 .bf16) (harg8 : arg8.IsWhole) (arg9 : Memref sig .tc .vmem S256x512 .f32) (harg9 : arg9.IsWhole)
    (xs : Vec F S4 .i32) (hw : k1_chk1 (lo i xs) (hi i xs)) (x4 : Vec F S1024x16384 .fp8e4m3)
    (x5 : Vec F S1x16384x512 .fp8e4m3) (x6 : Vec F S3 .f32) (x7 : Vec F S1x1x512 .f32) (o : Vec F S1024x512 .bf16) (K : PUnit → sProp 𝕄) :
    iprop(owns (c : Thread nD τ) arg2 q xs ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare o
        ∗ (∃ d, owns (c : Thread nD τ) arg9 fullShare d)
        ∗ (iprop(owns (c : Thread nD τ) arg2 q xs ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (blockOut i xs hw x4 x5 x6 x7 o)
            ∗ (∃ d, owns (c : Thread nD τ) arg9 fullShare d)) -∗ K ⟨⟩))
      ⊢ wp frame (wpE (defs₀ (F := F)) Variants.none c none) E
          (cc1_grouped_matmul i arg2 harg2 arg3 harg3 arg4 harg4 arg5 harg5 arg6 harg6 arg7 harg7 arg8 harg8 arg9 harg9) K := by
  simp only [cc1_grouped_matmul_eq_skeleton]; unfold cc1_grouped_matmul_skel
  simp only [k1_part7_eq_skeleton]
  unfold owns
  iintro ⟨⟨%f2, %hf2, H2⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf2 hf4 hf5 hf6 hf7 hf8
  sl_exec
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (read_tiles (F := F) _ c _ i arg2 harg2 arg3 harg3 arg4 harg4 arg5 harg5 arg6 harg6 arg7 harg7 arg8 harg8 arg9 harg9
      _ _ hw _ _ _ _ _ _ _ _ le_rfl).trans ?_
    unfold blockOut
    rw [if_neg hi1]
    have e1 : sound_later.sl.v22 c i arg2 f2 = base (lo i (arg2.view.read (Elt F) f2)) := by
      delta sound_later.sl.v22 sound_later.sl.v21 sound_later.sl.v20 sound_later.sl.v19 sound_later.sl.v18 sound_later.sl.v17 sound_later.sl.v16 sound_later.sl.v10 sound_later.sl.v9 sound_later.sl.v8 sound_later.sl.v7 sound_later.sl.v6 sound_later.sl.v5 sound_later.sl.r base lo
      simp only [View.readAt_eq_ld]
    have e2 : sound_later.sl.r_3 c i arg6 arg7 f6 f7 = k1_pay25 (xsc i (arg6.view.read (Elt F) f6)) (arg7.view.read (Elt F) f7) := by
      delta sound_later.sl.r_3 sound_later.sl.r_2 xsc
      rw [View.readAt_eq_ld, View.readAt_eq_ld]
      congr 1
      exact (View.readAt_eq_ld _ _ _).symm.trans (View.readAt_full arg7.view f7 inb_S1x1x512_S1x1x512_0_0_0)
    rw [e1, e2]
  iexists _; iexists _; isplitr
  swap; · iexact H9
  ipureintro; rfl

/-- The body at any grid point: the inputs are kept, the output block is left at `blockOut`. -/
theorem sound_kernel (c : Dev nD) (E : Set ℕ) (i : grid1.Coords) (q : PosShare TreeShare)
    (arg2 : Memref sig .tc .smem S4 .i32) (harg2 : arg2.IsWhole) (arg3 : Memref sig .tc .smem S3 .i32) (harg3 : arg3.IsWhole)
    (arg4 : Memref sig .tc .vmem S1024x16384 .fp8e4m3) (harg4 : arg4.IsWhole) (arg5 : Memref sig .tc .vmem S1x16384x512 .fp8e4m3) (harg5 : arg5.IsWhole)
    (arg6 : Memref sig .tc .smem S3 .f32) (harg6 : arg6.IsWhole) (arg7 : Memref sig .tc .vmem S1x1x512 .f32) (harg7 : arg7.IsWhole)
    (arg8 : Memref sig .tc .vmem S1024x512 .bf16) (harg8 : arg8.IsWhole) (arg9 : Memref sig .tc .vmem S256x512 .f32) (harg9 : arg9.IsWhole)
    (xs : Vec F S4 .i32) (hw : k1_chk1 (lo i xs) (hi i xs)) (x4 : Vec F S1024x16384 .fp8e4m3)
    (x5 : Vec F S1x16384x512 .fp8e4m3) (x6 : Vec F S3 .f32) (x7 : Vec F S1x1x512 .f32) (o : Vec F S1024x512 .bf16) (K : PUnit → sProp 𝕄) :
    iprop(owns (c : Thread nD τ) arg2 q xs ∗ owns (c : Thread nD τ) arg4 fullShare x4 ∗ owns (c : Thread nD τ) arg5 fullShare x5
        ∗ owns (c : Thread nD τ) arg6 fullShare x6 ∗ owns (c : Thread nD τ) arg7 fullShare x7 ∗ owns (c : Thread nD τ) arg8 fullShare o
        ∗ (∃ d, owns (c : Thread nD τ) arg9 fullShare d)
        ∗ (iprop(owns (c : Thread nD τ) arg2 q xs ∗ owns (c : Thread nD τ) arg4 fullShare x4 ∗ owns (c : Thread nD τ) arg5 fullShare x5
            ∗ owns (c : Thread nD τ) arg6 fullShare x6 ∗ owns (c : Thread nD τ) arg7 fullShare x7
            ∗ owns (c : Thread nD τ) arg8 fullShare (blockOut i xs hw x4 x5 x6 x7 o)
            ∗ (∃ d, owns (c : Thread nD τ) arg9 fullShare d)) -∗ K ⟨⟩))
      ⊢ wp frame (wpE (defs₀ (F := F)) Variants.none c none) E
          (cc1_grouped_matmul i arg2 harg2 arg3 harg3 arg4 harg4 arg5 harg5 arg6 harg6 arg7 harg7 arg8 harg8 arg9 harg9) K := by
  by_cases hi1 : isFirst i
  · exact sound_first c E i hi1 q arg2 harg2 arg3 harg3 arg4 harg4 arg5 harg5 arg6 harg6 arg7 harg7 arg8 harg8 arg9 harg9 xs hw x4 x5 x6 x7 o K
  · exact sound_later c E i hi1 q arg2 harg2 arg3 harg3 arg4 harg4 arg5 harg5 arg6 harg6 arg7 harg7 arg8 harg8 arg9 harg9 xs hw x4 x5 x6 x7 o K

end Cert.KernelIdeal.Matmul

end
-- ==== Proof.Ideal.Grouped.lean ====
/- The grouped product's call: the pipeline's proof data over any contents `W` of the core's buffers at the region's
   entry and any admissible tables `a`, and its body obligation. -/
module

public import proofs.«01_k».proof.Proof.Ideal.Body
public import proofs.«01_k».proof.Proof.Gen.KernelIdeal.Launch

@[expose] public section

set_option maxRecDepth 16384

noncomputable section

namespace Cert.KernelIdeal.Matmul

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : (c : Dev nD) → (b : Ref sig .tc) → Buf (Elt F) ((c : Thread nD τ).loc b))
variable (a : (pcfg1 (F := F)).Adm)

/-- The table of group starts, as the call is given it. -/
abbrev starts : Vec F S4 .i32 := a.1 0

/-- A grid point's test for the first group, by the point's number. -/
theorem isFirst_iff : ∀ t : Fin grid1.N, isFirst (grid1.coords t) ↔ t.val % 3 = 0 := by decide +kernel

/-- The output block is written back at the last group of each column tile. -/
theorem flush_4 : ∀ t : Fin grid1.N, ((cfg1 a).win 4).flush t = true ↔ t.val % 3 = 2 := by
  have h : ∀ t : Fin grid1.N, Pipeline.Window.flushOf grid1 true cc1_transform_4 t = true ↔ t.val % 3 = 2 := by decide +kernel
  exact h

/-- Window `w`'s block at point `t`, read off its array as the region finds it. -/
def iblk (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (W c (Pipeline.arrRef spec1 w))

variable (hchk : ∀ i : grid1.Coords, k1_chk1 (lo i (starts a)) (hi i (starts a)))

/-- What one point leaves in the output block, of what it finds there. -/
def stepOut (c : Dev nD) (t : Fin (cfg1 a).N) (o : Vec F S1024x512 .bf16) : Vec F S1024x512 .bf16 :=
  blockOut (grid1.coords t) (starts a) (hchk _) (iblk W a c 0 t) (iblk W a c 1 t) (iblk W a c 2 t) (iblk W a c 3 t) o

/-- The output block after point `n`: each point works on what the point before it left. -/
def outBlk (c : Dev nD) : ∀ n : ℕ, n < (cfg1 a).N → Vec F S1024x512 .bf16
  | 0, h => stepOut W a hchk c ⟨0, h⟩ k1_pay26
  | n + 1, h => stepOut W a hchk c ⟨n + 1, h⟩ (outBlk c n (Nat.lt_of_succ_lt h))

/-- At a first group the block found does not matter. -/
theorem stepOut_first (c : Dev nD) (t : Fin (cfg1 a).N) (h : isFirst (grid1.coords t)) (o o' : Vec F S1024x512 .bf16) :
    stepOut W a hchk c t o = stepOut W a hchk c t o' := by
  unfold stepOut blockOut; rw [if_pos h, if_pos h]

/-- The block after a point is one step from the block before it. -/
theorem outBlk_step (c : Dev nD) (t : Fin (cfg1 a).N) (ht : t.val ≠ 0) :
    outBlk W a hchk c t.val t.isLt = stepOut W a hchk c t (outBlk W a hchk c (t.val - 1) (by omega)) := by
  obtain ⟨n, hn⟩ := t
  cases n with
  | zero => exact absurd rfl ht
  | succ n => rfl

/-- The table of weight blocks, as the call is given it. -/
abbrev blocks : Vec F S3 .i32 := a.1 1

/-- The two tables, held whole. -/
theorem tables_eq (c : Dev nD) :
    (Pipeline.prefHeld pre1 c (fun _ => fullShare) a.1 : sProp 𝕄)
      = iprop(owns (c : Thread nD τ) (Memref.whole main_v2) fullShare (starts a) ∗ owns (c : Thread nD τ) (Memref.whole main_v31) fullShare (blocks a)) :=
  (bigSep_univ_eq_bigSepL [(0 : Fin 2), (1 : Fin 2)] (by decide) (by decide) _).trans
    (congrArg₂ (fun P Q : sProp 𝕄 => iprop(P ∗ Q)) (owns_whole (c : Thread nD τ) main_v2 fullShare (starts a)).symm
      (owns_whole (c : Thread nD τ) main_v31 fullShare (blocks a)).symm)

/-- The proof data of the grouped product: inputs keep their blocks, the output block follows `outBlk`; beside them ride the
    scoped buffers no window stages (the accumulator among them) and the two tables. -/
def dat (c : Dev nD) : Dat τ (Elt F) Unit ℕ (UR sig nD τ) ℕ (cfg1 a) c where
  A w := W c (Pipeline.arrRef spec1 w)
  after w t := match w with
    | ⟨0, _⟩ => iblk W a c 0 t
    | ⟨1, _⟩ => iblk W a c 1 t
    | ⟨2, _⟩ => iblk W a c 2 t
    | ⟨3, _⟩ => iblk W a c 3 t
    | ⟨4, _⟩ => outBlk W a hchk c t.val t.isLt
  Φ _ := iprop(iprop(Pipeline.scopedRest spec1 c ∗ emp) ∗ Pipeline.prefHeld pre1 c (fun _ => fullShare) a.1)
  q _ := fullShare
  owed _ := 0

/-- Before the region each window's array is what the host left there. -/
theorem A_eq (c : Dev nD) (w : Fin (cfg1 a).W) : (dat W a hchk c).A w = W c (Pipeline.arrRef spec1 w) := by
  dsimp only [dat]
/-- The body keeps the block of window 0, the codes. -/
theorem after_0 (c : Dev nD) (t) : (dat W a hchk c).after 0 t = iblk W a c 0 t := rfl
/-- The same of window 1, the weight codes. -/
theorem after_1 (c : Dev nD) (t) : (dat W a hchk c).after 1 t = iblk W a c 1 t := rfl
/-- The same of window 2, the activation scales of the groups. -/
theorem after_2 (c : Dev nD) (t) : (dat W a hchk c).after 2 t = iblk W a c 2 t := rfl
/-- The same of window 3, the weight scales. -/
theorem after_3 (c : Dev nD) (t) : (dat W a hchk c).after 3 t = iblk W a c 3 t := rfl
/-- The body leaves `outBlk` in the output block. -/
theorem after_4 (c : Dev nD) (t : Fin (cfg1 a).N) : (dat W a hchk c).after 4 t = outBlk W a hchk c t.val t.isLt := rfl

/-- What the body finds in window 0: the block of the array as the host left it. -/
theorem before_0 (c : Dev nD) (t d) : (dat W a hchk c).before 0 t d = iblk W a c 0 t :=
  ((dat W a hchk c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- The same of window 1. -/
theorem before_1 (c : Dev nD) (t d) : (dat W a hchk c).before 1 t d = iblk W a c 1 t :=
  ((dat W a hchk c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- The same of window 2. -/
theorem before_2 (c : Dev nD) (t d) : (dat W a hchk c).before 2 t d = iblk W a c 2 t :=
  ((dat W a hchk c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- The same of window 3. -/
theorem before_3 (c : Dev nD) (t d) : (dat W a hchk c).before 3 t d = iblk W a c 3 t :=
  ((dat W a hchk c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Whatever the output block is found at, one step from it is the block `outBlk` says. -/
theorem step_before_4 (c : Dev nD) (t : Fin (cfg1 a).N) (d) :
    stepOut W a hchk c t ((dat W a hchk c).before 4 t d) = outBlk W a hchk c t.val t.isLt := by
  by_cases hf : isFirst (grid1.coords t)
  · by_cases h0 : t.val = 0
    · obtain ⟨n, hn⟩ := t
      obtain rfl : n = 0 := h0
      exact stepOut_first W a hchk c _ hf _ _
    · rw [outBlk_step W a hchk c t h0]
      exact stepOut_first W a hchk c _ hf _ _
  · have h3 : t.val % 3 ≠ 0 := fun h => hf ((isFirst_iff t).mpr h)
    have h0 : t.val ≠ 0 := fun h => h3 (by rw [h])
    rw [outBlk_step W a hchk c t h0]
    congr 1
    refine ((dat W a hchk c).before_out_kept 4 rfl t h0 ?_ (fun _ => rfl) (fun _ _ => rfl) d).trans (after_4 W a hchk c _)
    rw [← Bool.not_eq_true]
    intro h
    have := (flush_4 a _).mp h
    simp only at this
    omega

/-- The staging buffers at point `t`, and the body's call on them. -/
abbrev st (t : Fin (cfg1 a).N) (w : Fin (cfg1 a).W) := ((cfg1 a).win w).stage ((cfg1 a).slots t w)
/-- The body at one grid point, over its slots. -/
abbrev bodyAt (t : Fin (cfg1 a).N) : Prog (TpuEff nD τ sig (Elt F) Λ₀ .tc) PUnit :=
  cc1_grouped_matmul (grid1.coords t) (Memref.whole main_v2) (Memref.isWhole_whole _) (Memref.whole main_v31) (Memref.isWhole_whole _)
    (st a t 0) (hstage1_0 (((cfg1 a).slots t 0).cast nbuf1_0)) (st a t 1) (hstage1_1 (((cfg1 a).slots t 1).cast nbuf1_1))
    (st a t 2) (hstage1_2 (((cfg1 a).slots t 2).cast nbuf1_2)) (st a t 3) (hstage1_3 (((cfg1 a).slots t 3).cast nbuf1_3))
    (st a t 4) (hstage1_4 (((cfg1 a).slots t 4).cast nbuf1_4)) (Memref.whole cc1_scratch0) (Memref.isWhole_whole _)

/-- The table of bodies calls it so. -/
theorem defs₀_row (t : Fin (cfg1 a).N) :
    defs₀ (F := F) .tc (cfg1 a).body ((cfg1 a).bodyArgs t ((cfg1 a).slots t)) = bodyAt a t := by
  unfold defs₀; rw [Defs.onTc_tc]; rfl

/-- The accumulator's buffer, owned, is its points-to. -/
theorem scratch_out (c : Dev nD) (g : Vec F S256x512 .f32) :
    (owns (c : Thread nD τ) (Memref.whole cc1_scratch0) fullShare g : sProp 𝕄)
      ⊢ (((c : Thread nD τ).loc cc1_scratch0) ↦{fullShare} g) := by
  rw [owns_whole (c : Thread nD τ) cc1_scratch0]

/-- What the body is called with at point `t`, and what it returns. -/
def bodyPre (c : Dev nD) (t : Fin (cfg1 a).N) : sProp 𝕄 :=
  iprop((dat W a hchk c).Φ t.castSucc ∗ (dat W a hchk c).owesAt () t.castSucc
    ∗ (∃ d, owns (c : Thread nD τ) (st a t 0) fullShare ((dat W a hchk c).before 0 t d))
    ∗ (∃ d, owns (c : Thread nD τ) (st a t 1) fullShare ((dat W a hchk c).before 1 t d))
    ∗ (∃ d, owns (c : Thread nD τ) (st a t 2) fullShare ((dat W a hchk c).before 2 t d))
    ∗ (∃ d, owns (c : Thread nD τ) (st a t 3) fullShare ((dat W a hchk c).before 3 t d))
    ∗ (∃ d, owns (c : Thread nD τ) (st a t 4) fullShare ((dat W a hchk c).before 4 t d)))
/-- What holds after the body at one grid point. -/
def bodyPost (c : Dev nD) (t : Fin (cfg1 a).N) : sProp 𝕄 :=
  iprop((dat W a hchk c).Φ t.succ ∗ (dat W a hchk c).owesAt () t.succ
    ∗ owns (c : Thread nD τ) (st a t 0) fullShare ((dat W a hchk c).after 0 t)
    ∗ owns (c : Thread nD τ) (st a t 1) fullShare ((dat W a hchk c).after 1 t)
    ∗ owns (c : Thread nD τ) (st a t 2) fullShare ((dat W a hchk c).after 2 t)
    ∗ owns (c : Thread nD τ) (st a t 3) fullShare ((dat W a hchk c).after 3 t)
    ∗ owns (c : Thread nD τ) (st a t 4) fullShare ((dat W a hchk c).after 4 t))

set_option maxHeartbeats 800000 in
/-- The body's triple at every point. -/
theorem sound_body (c : Dev nD) (t : Fin (cfg1 a).N) :
    bodyPre W a hchk c t ⊢ wp frame (wpE (defs₀ (F := F)) Variants.none c none) Set.univ (bodyAt a t) (fun _ => bodyPost W a hchk c t) := by
  unfold bodyPre bodyPost
  simp only [before_0, before_1, before_2, before_3]
  rw [show (dat W a hchk c).Φ t.succ = (dat W a hchk c).Φ t.castSucc from rfl,
    show (dat W a hchk c).owesAt () t.succ = (dat W a hchk c).owesAt () t.castSucc from rfl,
    after_0, after_1, after_2, after_3, after_4,
    show (dat W a hchk c).Φ t.castSucc = iprop(iprop(Pipeline.scopedRest spec1 c ∗ emp) ∗ Pipeline.prefHeld pre1 c (fun _ => fullShare) a.1) from rfl,
    scopedRest1_eq, tables_eq]
  iintro ⟨⟨⟨⟨R0, R1, R2, R3, R4, R5, ⟨%f9, H9⟩⟩, He⟩, ⟨Ht, Hi⟩⟩, Ho, ⟨%d0, H0⟩, ⟨%d1, H1⟩, ⟨%d2, H2⟩, ⟨%d3, H3⟩, ⟨%d4, H4⟩⟩
  rw [← step_before_4 W a hchk c t d4]
  iapply (sound_kernel c Set.univ (grid1.coords t) fullShare _ _ _ _ _ _ _ _ _ _ _ _ _ _ _ _ (starts a) (hchk _)
    (iblk W a c 0 t) (iblk W a c 1 t) (iblk W a c 2 t) (iblk W a c 3 t) ((dat W a hchk c).before 4 t d4) _)
  isplitl [Ht]; · iexact Ht
  isplitl [H0]; · iexact H0
  isplitl [H1]; · iexact H1
  isplitl [H2]; · iexact H2
  isplitl [H3]; · iexact H3
  isplitl [H4]; · iexact H4
  isplitl [H9]
  · iexists f9; rw [owns_whole (c : Thread nD τ) cc1_scratch0]; iexact H9
  iintro ⟨Ht, H0, H1, H2, H3, H4, ⟨%g9, H9⟩⟩
  isplitl [R0 R1 R2 R3 R4 R5 H9 He Ht Hi]
  · isplitl [R0 R1 R2 R3 R4 R5 H9 He]
    · isplitl [R0 R1 R2 R3 R4 R5 H9]
      · isplitl [R0]; · iexact R0
        isplitl [R1]; · iexact R1
        isplitl [R2]; · iexact R2
        isplitl [R3]; · iexact R3
        isplitl [R4]; · iexact R4
        isplitl [R5]; · iexact R5
        iexists g9
        iapply (scratch_out c g9)
        iexact H9
      · iexact He
    · isplitl [Ht]; · iexact Ht
      iexact Hi
  isplitl [Ho]; · iexact Ho
  isplitl [H0]; · iexact H0
  isplitl [H1]; · iexact H1
  isplitl [H2]; · iexact H2
  isplitl [H3]; · iexact H3
  iexact H4

/-- The body obligation of the grouped product, at every point. -/
theorem body_obligation (c : Dev nD) : BodyObligation (dat W a hchk c) (defs₀ (F := F)) Variants.none () Set.univ := fun t => by
  rw [bigSep_W1, bigSep_W1, defs₀_row]
  exact triple_restated (sound_body W a hchk c t) rfl .rfl fun _ => .rfl

end Cert.KernelIdeal.Matmul

end
-- ==== Proof.Ideal.Run.lean ====
/- The run of the whole program from a state whose group starts are in range: the host stretches, the quantising call and
   the grouped product, one after the other. Every argument ends as launched, every semaphore counter at zero, and the
   result array holds what the grouped product's pipeline leaves in it. -/
module

public import proofs.«01_k».proof.Proof.Ideal.Quantise
public import proofs.«01_k».proof.Proof.Ideal.Grouped
public import proofs.«01_k».proof.Proof.Gen.KernelIdeal.Regions
public import Idealize.ShloMosaic.Lib.Pipeline.RegionArraysTS

@[expose] public section

set_option maxRecDepth 16384

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg HostSeg)

variable {F : FTy → Type} [FloatOps F]

variable (m : (ℓ : Loc nD τ sig) → Buf (Elt F) ℓ)

/-- The run of the whole program, from a proof of each of its two regions and the links between them: it ends with the result as the second region leaves it, the arguments unchanged and every semaphore at zero. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F)) (a : (p : Fin 2) → (pcfgs (F := F) p).Adm)
    (pdats : (p : Fin 2) → (c : Dev nD) → Dat τ (Elt F) Ix ℕ U Lvl (Pipeline.pin (pcfgs (F := F)) a p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) a) (cellOf_inj a)) (Pipeline.launchToks (Pipeline.pin (pcfgs (F := F)) a) (cellOf_inj a)))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) a pdats ι defs₀ 𝒱₀ L lv 0)
    (hpre0 : ∀ c : Dev nD, iprop(StableHlo.held (c : Thread nD τ) (Pipeline.ucRefs τ sig) (V18 m c) ∗ E 0 c) ⊢ R0.pre c)
    (hpost0 : ∀ c : Dev nD, R0.post c ⊢ iprop(StableHlo.held (c : Thread nD τ) (Pipeline.ucRefs τ sig) (V19 m outs c) ∗ E 1 c))
    (R1 : RegionSeg (pcfgs (F := F)) a pdats ι defs₀ 𝒱₀ L lv 1)
    (hpre1 : ∀ c : Dev nD, iprop(StableHlo.held (c : Thread nD τ) (Pipeline.ucRefs τ sig) (V20 m outs c) ∗ E 1 c) ⊢ R1.pre c)
    (hpost1 : ∀ c : Dev nD, R1.post c ⊢ iprop(StableHlo.held (c : Thread nD τ) (Pipeline.ucRefs τ sig) (V21 m outs c) ∗ E 2 c)) :
    θ_run defs (onTc (τ := τ) (main (F := F))) ⟨m, fun _ => 0, ρ⟩ (fun r => (∀ c : Dev nD,
      r.2.mem ((c.tc : Thread nD τ).loc main_v42) = V21 m outs c (Proc.devRef .tc main_v42) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine Pipeline.θ_run_regions_kit_dev_sems (pcfgs (F := F)) a pdats ι (cellOf_inj a) EP defs₀ 𝒱₀ L lv m ρ main
    (segs m outs 𝒱₀ L lv E ι a pdats R0 R1)
    (fun c Q => by
      rewrite [main_chain c, Seg.run_eq_chain,
        show (segs m outs 𝒱₀ L lv E ι a pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V21 m outs c))
    (hch := fun c => ⟨.rfl, .rfl, .rfl, .rfl, .rfl, .rfl, .rfl, .rfl, .rfl, .rfl, .rfl, .rfl, .rfl, .rfl, .rfl, .rfl, .rfl, .rfl, hpre0 c, hpost0 c, hpre1 c, (hpost1 c).trans (sep_mono .rfl (hE2 c))⟩)
    (hinit := ?_) (QY := fun c s => s.mem ((c.tc : Thread nD τ).loc main_v42) = V21 m outs c (Proc.devRef .tc main_v42) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V21 m outs c) s') $$ [Hh HSI]
    · isplitl [Hh] <;> iassumption
    icases Hr with ⟨%h, HSI⟩
    imodintro
    isplitr
    · ipureintro
      exact ⟨h (Proc.devRef .tc main_v42) (Finset.mem_filter.mpr ⟨StableHlo.devRef_mem_tcRefs main_v42, by decide⟩),
        (h (Proc.devRef .tc main_arg0) (Finset.mem_filter.mpr ⟨StableHlo.devRef_mem_tcRefs main_arg0, by decide⟩)).trans (V21_main_arg0 m outs c),
        (h (Proc.devRef .tc main_arg1) (Finset.mem_filter.mpr ⟨StableHlo.devRef_mem_tcRefs main_arg1, by decide⟩)).trans (V21_main_arg1 m outs c),
        (h (Proc.devRef .tc main_arg2) (Finset.mem_filter.mpr ⟨StableHlo.devRef_mem_tcRefs main_arg2, by decide⟩)).trans (V21_main_arg2 m outs c),
        (h (Proc.devRef .tc main_arg3) (Finset.mem_filter.mpr ⟨StableHlo.devRef_mem_tcRefs main_arg3, by decide⟩)).trans (V21_main_arg3 m outs c),
        (h (Proc.devRef .tc main_arg4) (Finset.mem_filter.mpr ⟨StableHlo.devRef_mem_tcRefs main_arg4, by decide⟩)).trans (V21_main_arg4 m outs c)⟩
    · iexact HSI

local notation "𝕄" => MT nD τ sig Unit (Elt F) ℕ (UR sig nD τ) ℕ

/-! ## The two regions -/

/-- The buffers as the quantising call finds them. -/
abbrev entry0 (c : Dev nD) (b : Ref sig .tc) : Buf (Elt F) ((c : Thread nD τ).loc b) := V18 m c (Proc.devRef .tc b)

/-- What the quantising call leaves in each buffer. -/
abbrev left0 (c : Dev nD) : Valuation τ sig (Elt F) := Pipeline.afterRegion (Quantise.dat (entry0 m) c) (V18 m c)

/-- The unknowns of the conditional frame, with the first region's filled in. -/
abbrev outs₁ : Outs (F := F) := fun _ r c => left0 m c (Proc.devRef .tc r)

/-- The buffers as the grouped product finds them. -/
abbrev entry1 (c : Dev nD) (b : Ref sig .tc) : Buf (Elt F) ((c : Thread nD τ).loc b) := V20 m (outs₁ m) c (Proc.devRef .tc b)

variable (a₁ : (pcfg1 (F := F)).Adm)
variable (hchk : ∀ i : grid1.Coords, k1_chk1 (Matmul.lo i (Matmul.starts a₁)) (Matmul.hi i (Matmul.starts a₁)))

/-- What the grouped product leaves in each buffer. -/
abbrev left1 (c : Dev nD) : Valuation τ sig (Elt F) := Pipeline.afterRegion (Matmul.dat (entry1 m) a₁ hchk c) (V20 m (outs₁ m) c)

/-- What each region leaves in the array it writes. -/
def outs₂ : Outs (F := F) := fun k r c => if k = 19 then left0 m c (Proc.devRef .tc r) else left1 m a₁ hchk c (Proc.devRef .tc r)

/-- The contents the two calls' pipelines are read at: the second call's tables. -/
def adms : (p : Fin 2) → (pcfgs (F := F) p).Adm
  | 0 => cfg0.toPCfg_adm
  | 1 => a₁

/-- The two pipelines' proof data. -/
def pdats : (p : Fin 2) → (c : Dev nD) → Dat τ (Elt F) Unit ℕ (UR sig nD τ) ℕ (Pipeline.pin (pcfgs (F := F)) (adms a₁) p) c
  | 0 => fun c => Quantise.dat (entry0 m) c
  | 1 => fun c => Matmul.dat (entry1 m) a₁ hchk c

/-- The wait indices: one at each of the TensorCores' cells. -/
def L : GSem nD τ sig → Finset Unit := fun g => if g.1.2 = .tc then {()} else ∅

/-- One level for all of them. -/
def lv : GSem nD τ sig → Unit → ℕ := fun _ _ => 0

/-- Between the items a core owes nothing. -/
abbrev E : Fin 3 → Dev nD → sProp 𝕄 := fun _ c => iprop(∃ Wd, owes (c : Thread nD τ) (0 : CellTallies nD τ sig Unit) Wd)

omit [FloatOps F] in
/-- Nothing beside: an assertion with nothing on its right. -/
theorem drop_emp (A : sProp 𝕄) : iprop(A ∗ BI.emp) ⊢ A := by
  iintro ⟨H, -⟩
  iexact H

omit [FloatOps F] in
/-- Nothing beside: an assertion gains nothing on its right. -/
theorem add_emp (A : sProp 𝕄) : A ⊢ iprop(A ∗ BI.emp) := by
  iintro H
  isplitl [H]; · iexact H
  iempintro

omit [FloatOps F] in
/-- What is held and owed, with the two empty places a region's record asks for. -/
theorem to_pre (A B : sProp 𝕄) : iprop(A ∗ B) ⊢ iprop(A ∗ (B ∗ BI.emp ∗ BI.emp)) := by
  iintro ⟨HA, HB⟩
  isplitl [HA]; · iexact HA
  isplitl [HB]; · iexact HB
  isplitl <;> iempintro

omit [FloatOps F] in
/-- The same, the empty places dropped. -/
theorem of_post (A B : sProp 𝕄) : iprop(A ∗ (B ∗ BI.emp ∗ BI.emp)) ⊢ iprop(A ∗ B) := by
  iintro ⟨HA, HB, -⟩
  isplitl [HA]; · iexact HA
  iexact HB

/-- Waits and what is owed never cross: nothing is owed. -/
theorem cut (a : (p : Fin 2) → (pcfgs (F := F) p).Adm) (p : Fin 2) :
    Pipeline.LevelCut (pcfgs (F := F)) a () L lv p (fun _ => (0 : CellTallies nD τ sig Unit)) (fun _ => (0 : ℕ)) where
  hι := fun c w s => by simp [L]
  hιb := fun c w s => le_refl _
  hD := fun c g i h => absurd h (lt_irrefl _)

/-- Entering the quantising call: the buffers no window stages are all its invariant holds. -/
theorem enter0 (c : Dev nD) : iprop(Pipeline.scopedRest (Pipeline.pin (pcfgs (F := F)) (adms a₁) 0).spec c ∗ BI.emp) ⊢ (pdats m a₁ hchk 0 c).Φ 0 := by
  have h : (Quantise.dat (entry0 m) c).Φ 0 = Pipeline.scopedRest spec0 c := by dsimp only [Quantise.dat]
  show iprop(Pipeline.scopedRest spec0 c ∗ BI.emp) ⊢ (Quantise.dat (entry0 m) c).Φ 0
  rw [h]
  exact drop_emp (F := F) _

/-- Leaving it, they are given back. -/
theorem leave0 (c : Dev nD) : (pdats m a₁ hchk 0 c).Φ (Fin.last (Pipeline.pin (pcfgs (F := F)) (adms a₁) 0).N)
    ⊢ iprop(Pipeline.scopedRest (Pipeline.pin (pcfgs (F := F)) (adms a₁) 0).spec c ∗ BI.emp) := by
  have h : (Quantise.dat (entry0 m) c).Φ (Fin.last cfg0.N) = Pipeline.scopedRest spec0 c := by dsimp only [Quantise.dat]
  show (Quantise.dat (entry0 m) c).Φ (Fin.last cfg0.N) ⊢ iprop(Pipeline.scopedRest spec0 c ∗ BI.emp)
  rw [h]
  exact add_emp (F := F) _

set_option backward.isDefEq.respectTransparency.types false in
/-- The quantising call as a segment of the program. -/
def R0 : RegionSeg (pcfgs (F := F)) (adms a₁) (pdats m a₁ hchk) () defs₀ Variants.none L lv 0 :=
  RegionSeg.ofHeldIn (pcfgs (F := F)) (adms a₁) (pdats m a₁ hchk) () defs₀ Variants.none L lv 0 (fun _ => 0) (Pipeline.ucRefs τ sig)
    (fun _ => BI.emp) (fun _ => BI.emp) launch0 rfl
    (fun c => (Quantise.body_obligation (entry0 m) c).loose) (fun _ _ => rfl) (fun _ => rfl)
    (fun c => (Quantise.dat (entry0 m) c).share_full fun _ => rfl)
    (fun c => enter0 m a₁ hchk c) (fun c => leave0 m a₁ hchk c) (fun _ => 0) (cut _ 0) (fun _ => BI.emp) (fun c => V18 m c)
    (fun c w => Quantise.A_eq (entry0 m) c w)

set_option backward.isDefEq.respectTransparency.types false in
/-- The grouped product's call as a segment of the program. -/
def R1 (hT : ∀ (c : Dev nD) k, a₁.1 k = V20 m (outs₁ m) c (Proc.devRef .tc (pre1.ref k))) :
    RegionSeg (pcfgs (F := F)) (adms a₁) (pdats m a₁ hchk) () defs₀ Variants.none L lv 1 :=
  RegionSeg.ofHeldInT (pcfgs (F := F)) (adms a₁) (pdats m a₁ hchk) () defs₀ Variants.none L lv 1 (fun _ => 0) (Pipeline.ucRefs τ sig)
    (fun _ => BI.emp) (fun _ => BI.emp) launch1
    (fun c => (Matmul.body_obligation (entry1 m) a₁ hchk c).loose) (fun _ _ => rfl) (fun _ => rfl)
    (fun c => (Matmul.dat (entry1 m) a₁ hchk c).share_full fun _ => rfl)
    (fun _ => .rfl) (fun _ => .rfl) (fun _ => 0) (cut _ 1) (fun _ => BI.emp) (fun c => V20 m (outs₁ m) c)
    (fun c w => Matmul.A_eq (entry1 m) a₁ hchk c w) hT

/-- The windows of the quantising call. -/
theorem fin0 : ∀ w : Fin 3, w = 0 ∨ w = 1 ∨ w = 2 := by decide

/-- The windows of the grouped product's call. -/
theorem fin1 : ∀ w : Fin 5, w = 0 ∨ w = 1 ∨ w = 2 ∨ w = 3 ∨ w = 4 := by decide

/-- After the quantising call only the codes' array has changed. -/
theorem left0_eq (c : Dev nD) : left0 m c = V19 m (outs₂ m a₁ hchk) c := by
  funext b
  by_cases hb : b = Proc.devRef .tc main_v40
  · subst hb
    simp only [V19, Function.update_self]
    rfl
  · simp only [V19, Function.update_of_ne hb]
    by_cases hw : ∃ w, b = Proc.devRef .tc (Pipeline.arrRef spec0 w)
    · obtain ⟨w, rfl⟩ := hw
      refine Pipeline.afterRegion_keeps (Quantise.dat (entry0 m) c) (V18 m c) winFacts0.arr_inj (Quantise.A_eq (entry0 m) c) _ fun w' e => ?_
      rcases fin0 w' with rfl | rfl | rfl
      · rfl
      · rfl
      · exact absurd (congrArg (Proc.devRef (τ := τ) .tc) e).symm hb
    · unfold left0 Pipeline.afterRegion
      rw [dif_neg hw]

/-- After the grouped product only the result array has changed. -/
theorem left1_eq (c : Dev nD) : left1 m a₁ hchk c = V21 m (outs₂ m a₁ hchk) c := by
  funext b
  by_cases hb : b = Proc.devRef .tc main_v42
  · subst hb
    simp only [V21, Function.update_self]
    rfl
  · simp only [V21, Function.update_of_ne hb]
    by_cases hw : ∃ w, b = Proc.devRef .tc (Pipeline.arrRef spec1 w)
    · obtain ⟨w, rfl⟩ := hw
      refine Pipeline.afterRegion_keeps (Matmul.dat (entry1 m) a₁ hchk c) (V20 m (outs₁ m) c) winFacts1.arr_inj (Matmul.A_eq (entry1 m) a₁ hchk c) _ fun w' e => ?_
      rcases fin1 w' with rfl | rfl | rfl | rfl | rfl
      · rfl
      · rfl
      · rfl
      · rfl
      · exact absurd (congrArg (Proc.devRef (τ := τ) .tc) e).symm hb
    · unfold left1 Pipeline.afterRegion
      rw [dif_neg hw]
      rfl

/-- The quantising call's arrays are among the core's buffers. -/
theorem sub0 : Pipeline.arrRefs (τ := τ) (pcfgs (F := F) 0).spec ⊆ Pipeline.ucRefs τ sig := Pipeline.arrRefs_sub_ucRefs spec0 winFacts0.arr_unscoped

/-- The grouped product's arrays are among the core's buffers. -/
theorem sub1 : Pipeline.arrRefs (τ := τ) (pcfgs (F := F) 1).spec ⊆ Pipeline.ucRefs τ sig := Pipeline.arrRefs_sub_ucRefs spec1 winFacts1.arr_unscoped

/-- The grouped product's tables are among the core's buffers. -/
theorem tsub1 : Pipeline.tblRefs (τ := τ) (pcfgs (F := F) 1).pre ⊆ Pipeline.ucRefs τ sig := Pipeline.tblRefs_sub_ucRefs pre1 preFacts1.unscoped

set_option backward.isDefEq.respectTransparency.types false in
/-- The quantising call is entered from the buffers as the host left them. -/
theorem pre0 (c : Dev nD) : iprop(StableHlo.held (c.tc : Thread nD τ) (Pipeline.ucRefs τ sig) (V18 m c)
    ∗ ((∃ Wd, owes (c : Thread nD τ) (0 : CellTallies nD τ sig Unit) Wd) ∗ BI.emp ∗ BI.emp)) ⊢ (R0 m a₁ hchk).pre c := by
  unfold R0
  exact RegionSeg.ofHeldIn_pre (pcs := pcfgs (F := F)) (a := adms a₁) (pdats := pdats m a₁ hchk) (ι := ()) (defs₀ := defs₀) (𝒱₀ := Variants.none) (L := L) (lv := lv)
    (p := 0) (D := fun _ => 0) (S := Pipeline.ucRefs τ sig) (X := fun _ => BI.emp) (Y := fun _ => BI.emp) (R := fun _ => BI.emp) (W := fun c => V18 m c) sub0 c

set_option backward.isDefEq.respectTransparency.types false in
/-- The quantising call leaves the buffers at `left0`. -/
theorem post0 (c : Dev nD) : (R0 m a₁ hchk).post c ⊢ iprop(StableHlo.held (c.tc : Thread nD τ) (Pipeline.ucRefs τ sig) (left0 m c)
    ∗ ((∃ Wd, owes (c : Thread nD τ) (0 : CellTallies nD τ sig Unit) Wd) ∗ BI.emp ∗ BI.emp)) := by
  unfold R0
  exact RegionSeg.ofHeldIn_post sub0 c

variable (hT : ∀ (c : Dev nD) k, a₁.1 k = V20 m (outs₁ m) c (Proc.devRef .tc (pre1.ref k)))

set_option backward.isDefEq.respectTransparency.types false in
/-- The grouped product's call is entered from the buffers the first call left. -/
theorem enter1 (c : Dev nD) : iprop(StableHlo.held (c.tc : Thread nD τ) (Pipeline.ucRefs τ sig) (V20 m (outs₁ m) c)
    ∗ ((∃ Wd, owes (c : Thread nD τ) (0 : CellTallies nD τ sig Unit) Wd) ∗ BI.emp ∗ BI.emp)) ⊢ (R1 m a₁ hchk hT).pre c := by
  unfold R1
  exact RegionSeg.ofHeldInT_pre (pcs := pcfgs (F := F)) (a := adms a₁) (pdats := pdats m a₁ hchk) (ι := ()) (defs₀ := defs₀) (𝒱₀ := Variants.none) (L := L) (lv := lv)
    (p := 1) (D := fun _ => 0) (S := Pipeline.ucRefs τ sig) (X := fun _ => BI.emp) (Y := fun _ => BI.emp) (R := fun _ => BI.emp) (W := fun c => V20 m (outs₁ m) c) sub1 tsub1 c

set_option backward.isDefEq.respectTransparency.types false in
/-- The grouped product leaves the buffers at `left1`. -/
theorem post1 (c : Dev nD) : (R1 m a₁ hchk hT).post c ⊢ iprop(StableHlo.held (c.tc : Thread nD τ) (Pipeline.ucRefs τ sig) (left1 m a₁ hchk c)
    ∗ ((∃ Wd, owes (c : Thread nD τ) (0 : CellTallies nD τ sig Unit) Wd) ∗ BI.emp ∗ BI.emp)) := by
  unfold R1
  exact RegionSeg.ofHeldInT_post sub1 tsub1 c

/-- The second call is entered the same whatever it leaves. -/
theorem entry1_eq (c : Dev nD) : V20 m (outs₂ m a₁ hchk) c = V20 m (outs₁ m) c := by
  simp only [V20, V19, outs₂, if_true]

include hT in
set_option backward.isDefEq.respectTransparency.types false in
/-- The run of the program, given that the tables the calls are given are `a₁`'s and that every group's rows are in range:
    the result array ends at what the grouped product leaves in it, the arguments as launched, the semaphores at zero. -/
theorem run (ρ : Dev nD → PrngReg) :
    θ_run defs (onTc (τ := τ) (main (F := F))) ⟨m, fun _ => 0, ρ⟩ (fun r => (∀ c : Dev nD,
      r.2.mem ((c.tc : Thread nD τ).loc main_v42) = left1 m a₁ hchk c (Proc.devRef .tc main_v42) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  have key := run_cond (F := F) (U := UR sig nD τ) m emb₁ () Variants.none L lv (fun g hg => if_neg hg) ρ (outs₂ m a₁ hchk) (adms a₁) (pdats m a₁ hchk)
    (fun _ => 0) (fun _ => BI.emp)
    (initOf (Pipeline.cells (Pipeline.pin (pcfgs (F := F)) (adms a₁)) (cellOf_inj (adms a₁))) (Pipeline.launchToks (Pipeline.pin (pcfgs (F := F)) (adms a₁)) (cellOf_inj (adms a₁))))
    ?hu E ?hE (fun _ => .rfl) (R0 m a₁ hchk) ?p0 ?q0 (R1 m a₁ hchk hT) ?p1 ?q1
  · have e : ∀ c : Dev nD, left1 m a₁ hchk c (Proc.devRef .tc main_v42) = V21 m (outs₂ m a₁ hchk) c (Proc.devRef .tc main_v42) :=
      fun c => congrFun (left1_eq m a₁ hchk c) _
    simp only [e]
    exact key
  case hu =>
    iintro Hu; imodintro
    isplitl [Hu]
    · iapply (show (ownU (initOf (Pipeline.cells (Pipeline.pin (pcfgs (F := F)) (adms a₁)) (cellOf_inj (adms a₁))) (Pipeline.launchToks (Pipeline.pin (pcfgs (F := F)) (adms a₁)) (cellOf_inj (adms a₁)))) : sProp 𝕄) ⊢ BI.own (emb₁ (initOf (Pipeline.cells (Pipeline.pin (pcfgs (F := F)) (adms a₁)) (cellOf_inj (adms a₁))) (Pipeline.launchToks (Pipeline.pin (pcfgs (F := F)) (adms a₁)) (cellOf_inj (adms a₁))))) from .rfl)
      iexact Hu
    iapply (show (BI.emp : sProp 𝕄) ⊢ bigSep Finset.univ (fun _ : Dev nD => (BI.emp : sProp 𝕄)) from by rw [BI.bigSep_emp_const])
    iempintro
  case hE =>
    refine Pipeline.initEach L lv fun c => ?_
    iintro ⟨⟨-, HO, -, -, -⟩, -⟩
    imodintro
    iexists ∅
    iexact HO
  case p0 => exact fun c => BI.Entails.trans (to_pre (F := F) _ _) (pre0 m a₁ hchk c)
  case q0 =>
    intro c
    rw [← left0_eq]
    exact BI.Entails.trans (post0 m a₁ hchk c) (of_post (F := F) _ _)
  case p1 =>
    intro c
    rw [entry1_eq]
    exact BI.Entails.trans (to_pre (F := F) _ _) (enter1 m a₁ hchk hT c)
  case q1 =>
    intro c
    rw [← left1_eq]
    exact BI.Entails.trans (post1 m a₁ hchk hT c) (of_post (F := F) _ _)

end Cert.KernelIdeal.Run

end
-- ==== Proof.Ideal.Words.lean ====
/- The grouped product's row arithmetic at group bounds that fit the thousand and twenty-four rows: the first row rounded
   down, the number of row tiles, each tile's first row; and with them every check the body makes of its run-time words. -/
module

public import proofs.«01_k».proof.Proof.Ideal.Body

@[expose] public section

set_option maxRecDepth 16384

noncomputable section

namespace Cert.KernelIdeal.Matmul

open Cert.KernelIdeal Cert.KernelIdeal.Gen
open Idealize.ShloMosaic Idealize.ShloMosaic.TcCoe

/-- The number of row tiles of the group of rows `l ≤ r < h`. -/
def tripsOf (l h : ℕ) : ℕ := if l < h then (h - l / 32 * 32 + 255) / 256 else 0

/-- The first row of tile `t` of a group beginning at row `l`: tiles are 256 rows apart and the last one is pulled back to end at the last row. -/
def rowOf (l t : ℕ) : ℕ := min (l / 32 * 32 + t * 256) 768

/-- A group has at most four row tiles. -/
theorem tripsOf_le (l h : ℕ) (hh : h ≤ 1024) : tripsOf l h ≤ 4 := by
  unfold tripsOf; split <;> omega

/-- A tile of 256 rows from its first row lies within the rows. -/
theorem rowOf_le (l t : ℕ) : rowOf l t ≤ 768 := by unfold rowOf; omega

/-- A tile's first row is a multiple of 32. -/
theorem rowOf_dvd (l t : ℕ) : 32 ∣ rowOf l t := by unfold rowOf; omega

/-- The rounding down, by cases. -/
theorem base_fin : ∀ n : Fin 1025, base (BitVec.ofNat 32 n.val) = BitVec.ofNat 32 (n.val / 32 * 32) := by decide +kernel

/-- The first row rounded down to a multiple of 32. -/
theorem base_ofNat (l : ℕ) (hl : l ≤ 1024) : base (BitVec.ofNat 32 l) = BitVec.ofNat 32 (l / 32 * 32) := base_fin ⟨l, by omega⟩

/-- The signed division by 256 of a small number, by cases. -/
theorem div_fin : ∀ n : Fin 1280, Scalar.divsi (BitVec.ofNat 32 n.val) 256#32 = BitVec.ofNat 32 (n.val / 256) := by decide +kernel

/-- The end of the main loop, by cases. -/
theorem whole_fin : ∀ n : Fin 5, Scalar.addi 0#32 (Scalar.muli (Scalar.divsi (Scalar.subi (BitVec.ofNat 32 n.val) 0#32) 1#32) 1#32) = BitVec.ofNat 32 n.val := by decide +kernel

/-- The end of the loop over the rest, by cases. -/
theorem sum_fin : ∀ n : Fin 5, Scalar.addi 0#32 (Scalar.subi (BitVec.ofNat 32 n.val) 0#32) = BitVec.ofNat 32 n.val := by decide +kernel

/-- A tile's first row, by cases. -/
theorem row_fin : ∀ k : Fin 33, ∀ t : Fin 5, Scalar.minsi (Scalar.addi (BitVec.ofNat 32 (k.val * 32)) (Scalar.muli (Scf.iv 0#32 1#32 t) 256#32)) 768#32
    = BitVec.ofNat 32 (min (k.val * 32 + t.val * 256) 768) := by decide +kernel

/-- The main loop's trip count, by cases. -/
theorem loop_fin : ∀ n : Fin 5, (⟨0#32, BitVec.ofNat 32 n.val, 1#32⟩ : Scf.Loop 32).trips = n.val ∧ (⟨0#32, BitVec.ofNat 32 n.val, 1#32⟩ : Scf.Loop 32).OK := by decide +kernel

/-- The trip count of the loop over the rest, by cases. -/
theorem rest_fin : ∀ n : Fin 5, (⟨BitVec.ofNat 32 n.val, BitVec.ofNat 32 n.val, 1#32⟩ : Scf.Loop 32).trips = 0 ∧ (⟨BitVec.ofNat 32 n.val, BitVec.ofNat 32 n.val, 1#32⟩ : Scf.Loop 32).OK := by decide +kernel

/-- The number of row tiles as the body computes it. -/
theorem count_eq (l h : ℕ) (hl : l ≤ 1024) (hh : h ≤ 1024) :
    Scalar.select (Scalar.cmpi .sgt (BitVec.ofNat 32 h) (BitVec.ofNat 32 l))
      (Scalar.divsi (Scalar.addi (Scalar.subi (BitVec.ofNat 32 h) (base (BitVec.ofNat 32 l))) 255#32) 256#32) 0#32 = BitVec.ofNat 32 (tripsOf l h) := by
  have hsl : (BitVec.ofNat 32 l).toInt = l := by rw [BitVec.toInt_eq_toNat_cond, BitVec.toNat_ofNat]; split <;> omega
  have hsh : (BitVec.ofNat 32 h).toInt = h := by rw [BitVec.toInt_eq_toNat_cond, BitVec.toNat_ofNat]; split <;> omega
  have hc : Scalar.cmpi .sgt (BitVec.ofNat 32 h) (BitVec.ofNat 32 l) = BitVec.ofBool (decide (l < h)) := by
    show BitVec.ofBool (BitVec.slt (BitVec.ofNat 32 l) (BitVec.ofNat 32 h)) = _
    rw [BitVec.slt, hsl, hsh]; simp
  rw [hc, base_ofNat l hl]
  unfold tripsOf
  by_cases hlt : l < h
  · rw [if_pos hlt]
    have e : Scalar.addi (Scalar.subi (BitVec.ofNat 32 h) (BitVec.ofNat 32 (l / 32 * 32))) 255#32 = BitVec.ofNat 32 (h - l / 32 * 32 + 255) := by
      apply BitVec.eq_of_toNat_eq
      show ((BitVec.ofNat 32 h - BitVec.ofNat 32 (l / 32 * 32)) + 255#32).toNat = _
      simp only [BitVec.toNat_add, BitVec.toNat_sub, BitVec.toNat_ofNat]
      omega
    rw [e, div_fin ⟨h - l / 32 * 32 + 255, by omega⟩]
    simp [hlt, Scalar.select]
  · rw [if_neg hlt]
    simp [hlt, Scalar.select]

/-- The loop over the group's row tiles. -/
theorem loop1_eq (l h : ℕ) (hl : l ≤ 1024) (hh : h ≤ 1024) :
    k1_t1_loop (BitVec.ofNat 32 l) (BitVec.ofNat 32 h) = ⟨0#32, BitVec.ofNat 32 (tripsOf l h), 1#32⟩ := by
  have e := count_eq l h hl hh
  have e2 := whole_fin ⟨tripsOf l h, by have := tripsOf_le l h hh; omega⟩
  show (⟨0#32, Scalar.addi 0#32 (Scalar.muli (Scalar.divsi (Scalar.subi (Scalar.select (Scalar.cmpi .sgt (BitVec.ofNat 32 h) (BitVec.ofNat 32 l))
      (Scalar.divsi (Scalar.addi (Scalar.subi (BitVec.ofNat 32 h) (base (BitVec.ofNat 32 l))) 255#32) 256#32) 0#32) 0#32) 1#32) 1#32), 1#32⟩ : Scf.Loop 32) = _
  rw [e, e2]

/-- The loop over what the first leaves: nothing. -/
theorem loop2_eq (l h : ℕ) (hl : l ≤ 1024) (hh : h ≤ 1024) :
    k1_t2_loop (BitVec.ofNat 32 l) (BitVec.ofNat 32 h) = ⟨BitVec.ofNat 32 (tripsOf l h), BitVec.ofNat 32 (tripsOf l h), 1#32⟩ := by
  have e := count_eq l h hl hh
  have e2 := whole_fin ⟨tripsOf l h, by have := tripsOf_le l h hh; omega⟩
  have e3 := sum_fin ⟨tripsOf l h, by have := tripsOf_le l h hh; omega⟩
  show (⟨Scalar.addi 0#32 (Scalar.muli (Scalar.divsi (Scalar.subi (Scalar.select (Scalar.cmpi .sgt (BitVec.ofNat 32 h) (BitVec.ofNat 32 l))
      (Scalar.divsi (Scalar.addi (Scalar.subi (BitVec.ofNat 32 h) (base (BitVec.ofNat 32 l))) 255#32) 256#32) 0#32) 0#32) 1#32) 1#32),
    Scalar.addi 0#32 (Scalar.subi (Scalar.select (Scalar.cmpi .sgt (BitVec.ofNat 32 h) (BitVec.ofNat 32 l))
      (Scalar.divsi (Scalar.addi (Scalar.subi (BitVec.ofNat 32 h) (base (BitVec.ofNat 32 l))) 255#32) 256#32) 0#32) 0#32), 1#32⟩ : Scf.Loop 32) = _
  rw [e, e2, e3]

/-- The main loop runs once for each row tile. -/
theorem trips1 (l h : ℕ) (hl : l ≤ 1024) (hh : h ≤ 1024) : (k1_t1_loop (BitVec.ofNat 32 l) (BitVec.ofNat 32 h)).trips = tripsOf l h := by
  rw [loop1_eq l h hl hh]
  exact (loop_fin ⟨tripsOf l h, by have := tripsOf_le l h hh; omega⟩).1

/-- The loop over the rest does not run. -/
theorem trips2 (l h : ℕ) (hl : l ≤ 1024) (hh : h ≤ 1024) : (k1_t2_loop (BitVec.ofNat 32 l) (BitVec.ofNat 32 h)).trips = 0 := by
  rw [loop2_eq l h hl hh]
  exact (rest_fin ⟨tripsOf l h, by have := tripsOf_le l h hh; omega⟩).1

/-- A tile's first row, as a word. -/
theorem mult_eq (l h : ℕ) (hl : l ≤ 1024) (hh : h ≤ 1024) (t : Fin (k1_t1_loop (BitVec.ofNat 32 l) (BitVec.ofNat 32 h)).trips) :
    k1_mult1 (BitVec.ofNat 32 l) (BitVec.ofNat 32 h) t = BitVec.ofNat 32 (rowOf l t.val) := by
  have ht : t.val < 5 := by
    have h1 := t.isLt.trans_eq (trips1 l h hl hh)
    have := tripsOf_le l h hh
    omega
  have e := row_fin ⟨l / 32, by omega⟩ ⟨t.val, ht⟩
  show Scalar.minsi (Scalar.addi (base (BitVec.ofNat 32 l)) (Scalar.muli (Scf.iv 0#32 1#32 t) 256#32)) 768#32 = _
  rw [base_ofNat l hl]
  exact e

/-- A tile's first row, as a number. -/
theorem mult_toNat (l h : ℕ) (hl : l ≤ 1024) (hh : h ≤ 1024) (t : Fin (k1_t1_loop (BitVec.ofNat 32 l) (BitVec.ofNat 32 h)).trips) :
    (k1_mult1 (BitVec.ofNat 32 l) (BitVec.ofNat 32 h) t).toNat = rowOf l t.val := by
  rw [mult_eq l h hl hh, BitVec.toNat_ofNat]
  have := rowOf_le l t.val
  omega

/-- A chunk of a row tile of the codes lies in the array. -/
theorem inb_wide (r c : ℕ) (hr : r ≤ 768) (hc : c ≤ 14336) : ∀ a, (![r, c] : Fin 2 → ℕ) a + S256x2048.size a ≤ S1024x16384.size a := by
  intro a
  match a with
  | ⟨0, _⟩ => show r + 256 ≤ 1024; omega
  | ⟨1, _⟩ => show c + 2048 ≤ 16384; omega

/-- A row tile of the output lies in the block. -/
theorem inb_narrow (r : ℕ) (hr : r ≤ 768) : ∀ a, (![r, 0] : Fin 2 → ℕ) a + S256x512.size a ≤ S1024x512.size a := by
  intro a
  match a with
  | ⟨0, _⟩ => show r + 256 ≤ 1024; omega
  | ⟨1, _⟩ => show 0 + 512 ≤ 512; omega

/-- Every check the body makes holds at group bounds that fit the rows. -/
theorem chk_of_le (l h : ℕ) (hl : l ≤ 1024) (hh : h ≤ 1024) : k1_chk1 (BitVec.ofNat 32 l) (BitVec.ofNat 32 h) := by
  have hm := mult_toNat l h hl hh
  have hle : ∀ t, (k1_mult1 (BitVec.ofNat 32 l) (BitVec.ofNat 32 h) t).toNat ≤ 768 := fun t => (hm t).trans_le (rowOf_le l t.val)
  have hdv : ∀ t, 32 ∣ (k1_mult1 (BitVec.ofNat 32 l) (BitVec.ofNat 32 h) t).toNat := fun t => (hm t).symm ▸ rowOf_dvd l t.val
  have h0 := trips2 l h hl hh
  have no : ∀ t : Fin (k1_t2_loop (BitVec.ofNat 32 l) (BitVec.ofNat 32 h)).trips, False := fun t => by
    have := t.isLt.trans_eq h0
    omega
  have ok1 : (k1_t1_loop (BitVec.ofNat 32 l) (BitVec.ofNat 32 h)).OK := by
    rw [loop1_eq l h hl hh]
    exact (loop_fin ⟨tripsOf l h, by have := tripsOf_le l h hh; omega⟩).2
  have ok2 : (k1_t2_loop (BitVec.ofNat 32 l) (BitVec.ofNat 32 h)).OK := by
    rw [loop2_eq l h hl hh]
    exact (rest_fin ⟨tripsOf l h, by have := tripsOf_le l h hh; omega⟩).2
  refine ⟨ok1, hdv, fun t => inb_wide _ 0 (hle t) (by omega), fun t => inb_wide _ 2048 (hle t) (by omega), fun t => inb_wide _ 4096 (hle t) (by omega),
    fun t => inb_wide _ 6144 (hle t) (by omega), fun t => inb_wide _ 8192 (hle t) (by omega), fun t => inb_wide _ 10240 (hle t) (by omega),
    fun t => inb_wide _ 12288 (hle t) (by omega), fun t => inb_wide _ 14336 (hle t) (by omega), fun t => inb_narrow _ (hle t), ?_, ok2,
    fun t => (no t).elim, fun t => (no t).elim, fun t => (no t).elim, fun t => (no t).elim, fun t => (no t).elim, fun t => (no t).elim,
    fun t => (no t).elim, fun t => (no t).elim, fun t => (no t).elim, fun t => (no t).elim, fun t => (no t).elim⟩
  intro t hinb
  refine Or.inr ⟨le_refl _, rfl, Or.inl ⟨?_, ?_⟩⟩
  · show 2 ∣ (k1_mult1 (BitVec.ofNat 32 l) (BitVec.ofNat 32 h) t).toNat
    exact dvd_trans (by decide) (hdv t)
  · show 2 ∣ 256
    decide

end Cert.KernelIdeal.Matmul

end
-- ==== Proof.Ideal.Tables.lean ====
/- The two tables the grouped product is given, read off the host's computation: where each group starts, and which
   weight block each group reads. With sizes that fit, every block and every row the product touches is in range, and the program's frame follows. -/
module

public import proofs.«01_k».proof.Proof.Ideal.Run
public import proofs.«01_k».proof.Proof.Ideal.Words
public import proofs.«01_k».proof.Proof.Sizes

@[expose] public section

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Routing (shape0 shape1)

variable {F : FTy → Type} [FloatOps F]
variable (m : (ℓ : Loc nD τ sig) → Buf (Elt F) ℓ)

/-- The group sizes the program is launched with. -/
abbrev sizes (c : Dev nD) : IVec (shape1 3) 32 := m ((c.tc : Thread nD τ).loc main_arg1)

/-- The table of starts as the host leaves it. -/
def startTab (gs : IVec (shape1 3) 32) : IVec S4 32 :=
  concatenate S4 0 [⟨S1, broadcastInDim S1 ![] bcast_S_S1 (constantI S_ 32 0#32)⟩,
    ⟨S3, Host.reduceWindow IntOp.addi ![3] ![1] ![2] ![0] gs (constantI S_ 32 0#32) reduceWindows_S3_S3_w3s1p2_0 h_S_⟩] concatenates_S1_S3_S4_d0

/-- The table of weight blocks as the host leaves it. -/
def blockTab (gs : IVec (shape1 3) 32) : IVec S3 32 := Sizes.blockOf (Sizes.holdsRows bcast_S_S3 gs)

/-- The host writes the table of starts. -/
theorem startTab_eq (c : Dev nD) : V3 m c (Proc.devRef .tc main_v2) = startTab (sizes m c) := by
  run_tidy
  rfl

/-- The host writes the table of weight blocks. -/
theorem blockTab_eq (c : Dev nD) : V17 m c (Proc.devRef .tc main_v31) = blockTab (sizes m c) := by
  run_tidy
  simp only [StableHlo.TRef.ofBuf, StableHlo.TRef.toBuf, cast_eq]
  rw [show (reducer_argmax_i1_i32 : BitVec 1 × BitVec 32 → BitVec 1 × BitVec 32 → BitVec 1 × BitVec 32) = Sizes.firstSet from rfl]
  rfl

/-- Both tables, as the calls are given them. -/
def tabs (c : Dev nD) : pre1.Contents (Elt F) := fun k => V18 m c (Proc.devRef .tc (pre1.ref k))

/-- The first table is the starts. -/
theorem tabs_0 (c : Dev nD) : tabs m c 0 = startTab (sizes m c) := by
  refine Eq.trans ?_ (startTab_eq m c)
  show V18 m c (Proc.devRef .tc main_v2) = _
  rw [V18_of m c main_v2 (by decide), V17_of m c main_v2 (by decide), V16_of m c main_v2 (by decide), V15_of m c main_v2 (by decide), V14_of m c main_v2 (by decide),
    V13_of m c main_v2 (by decide), V12_of m c main_v2 (by decide), V11_of m c main_v2 (by decide), V10_of m c main_v2 (by decide), V9_of m c main_v2 (by decide),
    V8_of m c main_v2 (by decide), V7_of m c main_v2 (by decide), V6_of m c main_v2 (by decide), V5_of m c main_v2 (by decide), V4_of m c main_v2 (by decide)]

/-- The second table is the weight blocks. -/
theorem tabs_1 (c : Dev nD) : tabs m c 1 = blockTab (sizes m c) := by
  refine Eq.trans ?_ (blockTab_eq m c)
  show V18 m c (Proc.devRef .tc main_v31) = _
  rw [V18_of m c main_v31 (by decide)]

/-- A word of the table of starts. -/
theorem startTab_word (gs : IVec (shape1 3) 32) (j : Fin 4) : startTab gs (ValueIdx.ix1 j) = BitVec.ofNat 32 (Sizes.start gs j.val) :=
  Sizes.starts_word gs _ _ _ _ j

/-- A word of the table of weight blocks. -/
theorem blockTab_le (gs : IVec (shape1 3) 32) (e : S3.Idx) : (blockTab gs e).toNat ≤ 2 := by
  rw [ValueIdx.eq_ix1 e]
  exact (Sizes.blockOf_holdsRows _ gs _).1

/-- The side condition on the tables holds when no weight block passes the third. -/
theorem ok_of_le (pf : pre1.Contents (Elt F)) (hb : ∀ (r : Rect S3) (h : r.shape.numel = 1), (pf.at 1 r h : BitVec 32).toNat ≤ 2) : ok1 pf := by
  refine ⟨fun i => ⟨fun a => ?_, .inr (Affine.block_words_rows (by decide) rfl)⟩, fun i => ⟨fun a => ?_, .inl rfl⟩⟩
  · have h0 := hb (Rect.unit (s := S3) (k1_off1 i) S1.size (k1_off1_inb i)) numel1_S1
    have h1 : (BitVec.ofNat 32 (i 0).val).toNat < 12 := by
      have := (i 0).isLt
      change (i 0).val < 12 at this
      simp only [BitVec.toNat_ofNat]
      omega
    match a with
    | ⟨0, _⟩ => exact (Nat.mul_one _).trans_le (Nat.succ_le_succ h0)
    | ⟨1, _⟩ => show (0 + 1) * 16384 ≤ 16384; omega
    | ⟨2, _⟩ => show ((BitVec.ofNat 32 (i 0).val).toNat + 1) * 512 ≤ 6144; omega
  · have h0 := hb (Rect.unit (s := S3) (k1_off1 i) S1.size (k1_off1_inb i)) numel1_S1
    have h1 : (BitVec.ofNat 32 (i 0).val).toNat < 12 := by
      have := (i 0).isLt
      change (i 0).val < 12 at this
      simp only [BitVec.toNat_ofNat]
      omega
    match a with
    | ⟨0, _⟩ => exact (Nat.mul_one _).trans_le (Nat.succ_le_succ h0)
    | ⟨1, _⟩ => show (0 + 1) * 1 ≤ 1; omega
    | ⟨2, _⟩ => show ((BitVec.ofNat 32 (i 0).val).toNat + 1) * 512 ≤ 6144; omega

/-- The side condition on the tables holds. -/
theorem tabs_ok (c : Dev nD) : ok1 (tabs m c) := by
  refine ok_of_le _ fun r h => ?_
  show (tabs m c 1 _).toNat ≤ 2
  rw [tabs_1]
  exact blockTab_le _ _

/-- The tables with their side condition. -/
def tables : (pcfg1 (F := F)).Adm := ⟨tabs m 0, tabs_ok m 0⟩

/-- The place a group's first row is read at. -/
theorem lo_place : ∀ i : grid1.Coords, (Rect.unit (s := S4) (k1_off2 i) S1.size (k1_off2_inb i)).idx (Shape.Idx.first (s := S1) (numel1_S1.symm ▸ Nat.one_pos))
    = ValueIdx.ix1 (⟨(i 1).val, Nat.lt_trans (i 1).isLt (by decide)⟩ : Fin 4) := by
  decide +kernel

/-- The place the row past a group's last is read at. -/
theorem hi_place : ∀ i : grid1.Coords, (Rect.unit (s := S4) (k1_off3 i) S1.size (k1_off3_inb i)).idx (Shape.Idx.first (s := S1) (numel1_S1.symm ▸ Nat.one_pos))
    = ValueIdx.ix1 (⟨(i 1).val + 1, Nat.succ_lt_succ (i 1).isLt⟩ : Fin 4) := by
  decide +kernel

/-- A grid point's group starts at its start. -/
theorem lo_eq (i : grid1.Coords) : Matmul.lo i (Matmul.starts (tables m)) = BitVec.ofNat 32 (Sizes.start (sizes m 0) (i 1).val) := by
  show View.ld (tabs m 0 0) _ _ = _
  rw [tabs_0]
  exact (congrArg (startTab (sizes m 0)) (lo_place i)).trans (startTab_word _ _)

/-- A grid point's group ends at the next start. -/
theorem hi_eq (i : grid1.Coords) : Matmul.hi i (Matmul.starts (tables m)) = BitVec.ofNat 32 (Sizes.start (sizes m 0) ((i 1).val + 1)) := by
  show View.ld (tabs m 0 0) _ _ = _
  rw [tabs_0]
  exact (congrArg (startTab (sizes m 0)) (hi_place i)).trans (startTab_word _ _)

/-- The rows the product touches are in range. -/
theorem rows_ok (h : Sizes.Fits (sizes m 0)) (i : grid1.Coords) : k1_chk1 (Matmul.lo i (Matmul.starts (tables m))) (Matmul.hi i (Matmul.starts (tables m))) := by
  rw [lo_eq, hi_eq]
  have := (i 1).isLt
  change (i 1).val < 3 at this
  exact Matmul.chk_of_le _ _ (Sizes.start_le h (by omega)) (Sizes.start_le h (by omega))

/-- The tables stay as they are until the product is called. -/
theorem tables_at (c : Dev nD) (k) : (tables m).1 k = V20 m (outs₁ m) c (Proc.devRef .tc (pre1.ref k)) := by
  obtain rfl : c = 0 := Subsingleton.elim _ _
  show V18 m 0 (Proc.devRef .tc (pre1.ref k)) = _
  match k with
  | ⟨0, _⟩ => exact ((V20_of m (outs₁ m) 0 main_v2 (by decide)).trans (V19_of m (outs₁ m) 0 main_v2 (by decide))).symm
  | ⟨1, _⟩ => exact ((V20_of m (outs₁ m) 0 main_v31 (by decide)).trans (V19_of m (outs₁ m) 0 main_v31 (by decide))).symm

/-- The run of the program from sizes that fit. -/
theorem run_fit (h : Sizes.Fits (sizes m 0)) (ρ : Dev nD → PrngReg) :
    θ_run defs (onTc (τ := τ) (main (F := F))) ⟨m, fun _ => 0, ρ⟩ (fun r => (∀ c : Dev nD,
      r.2.mem ((c.tc : Thread nD τ).loc main_v42) = left1 m (tables m) (rows_ok m h) c (Proc.devRef .tc main_v42) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  run m (tables m) (rows_ok m h) (fun c k => tables_at m c k) ρ

end Cert.KernelIdeal.Run

end
-- ==== Proof.Spec.lean ====
/- The mathematics of the grouped product over the extended reals, free of either program: the code of an activation
   under its row's scale, one group's dot, and the dot of 16384 products as eight dots of 2048. -/
module

public import proofs.«01_k».proof.Proof.Sizes
public import Idealize.ShloMosaic.Lib.Pointwise

@[expose] public section

set_option maxRecDepth 16384

noncomputable section

namespace Cert.Spec

open Idealize.ShloMosaic
open Idealize.ShloMosaic.Routing (shape1 shape2 shape3)

/-- A sum over 16384 positions is the sum of its eight runs of 2048, added from the first to the last. -/
theorem sum_chunks (f : ℕ → EReal) : ∑ k : Fin 16384, f k.val =
    (∑ k : Fin 2048, f (0 + k.val)) + (∑ k : Fin 2048, f (2048 + k.val)) + (∑ k : Fin 2048, f (4096 + k.val)) + (∑ k : Fin 2048, f (6144 + k.val))
      + (∑ k : Fin 2048, f (8192 + k.val)) + (∑ k : Fin 2048, f (10240 + k.val)) + (∑ k : Fin 2048, f (12288 + k.val)) + (∑ k : Fin 2048, f (14336 + k.val)) := by
  have e : ∀ a b : ℕ, ∑ n ∈ Finset.range (a + b), f n = ∑ n ∈ Finset.range a, f n + ∑ n ∈ Finset.range b, f (a + n) := fun a b => Finset.sum_range_add f a b
  have g : ∀ c : ℕ, ∑ k : Fin 2048, f (c + k.val) = ∑ n ∈ Finset.range 2048, f (c + n) := fun c =>
    Fin.sum_univ_eq_sum_range (fun n => f (c + n)) 2048
  rw [Fin.sum_univ_eq_sum_range (fun n => f n) 16384]
  simp only [g]
  rw [show (16384 : ℕ) = 14336 + 2048 from rfl, e, show (14336 : ℕ) = 12288 + 2048 from rfl, e, show (12288 : ℕ) = 10240 + 2048 from rfl, e,
    show (10240 : ℕ) = 8192 + 2048 from rfl, e, show (8192 : ℕ) = 6144 + 2048 from rfl, e, show (6144 : ℕ) = 4096 + 2048 from rfl, e,
    show (4096 : ℕ) = 2048 + 2048 from rfl, e]
  simp only [Nat.zero_add]

/-- The code of `x` under the scale `s`: the quotient clipped to ±448. -/
def code (x s : EReal) : EReal :=
  min (Ideal.ofBits FTy.f32 1138753536#32) (max (Ideal.ofBits FTy.f32 3286237184#32) (Ideal.div x s))

/-- The entry of row `r` and column `n` when the row belongs to group `e`: the row's codes under the group's activation scale,
    against the group's weights, times both scales. -/
def entry (x : (shape2 1024 16384).Idx → EReal) (xs : (shape1 3).Idx → EReal) (w : (shape3 3 16384 6144).Idx → EReal)
    (ws : (shape2 3 6144).Idx → EReal) (e : Fin 3) (r : Fin 1024) (n : Fin 6144) : EReal :=
  (∑ k : Fin 16384, code (x (ix2 r k)) (xs (ix1 e)) * w (ix3 e k n)) * (xs (ix1 e) * ws (ix2 e n))

/-- What the result must be: each group's rows hold the group's entries, the rows after the last group hold zero. -/
def IsResult (gs : IVec (shape1 3) 32) (x : (shape2 1024 16384).Idx → EReal) (xs : (shape1 3).Idx → EReal) (w : (shape3 3 16384 6144).Idx → EReal)
    (ws : (shape2 3 6144).Idx → EReal) (out : (shape2 1024 6144).Idx → EReal) : Prop :=
  ∀ (r : Fin 1024) (n : Fin 6144),
    (∀ e : Fin 3, Sizes.start gs e.val ≤ r.val → r.val < Sizes.start gs (e.val + 1) → out (ix2 r n) = entry x xs w ws e r n)
      ∧ (Sizes.start gs 3 ≤ r.val → out (ix2 r n) = 0)

/-- A row lies in one of the three groups or after them. -/
theorem row_cases (gs : IVec (shape1 3) 32) (r : ℕ) :
    (∃ e : Fin 3, Sizes.start gs e.val ≤ r ∧ r < Sizes.start gs (e.val + 1)) ∨ Sizes.start gs 3 ≤ r := by
  have h0 : Sizes.start gs 0 = 0 := rfl
  by_cases h1 : r < Sizes.start gs 1
  · exact .inl ⟨0, h0.le.trans (Nat.zero_le r), h1⟩
  by_cases h2 : r < Sizes.start gs 2
  · exact .inl ⟨1, Nat.not_lt.mp h1, h2⟩
  by_cases h3 : r < Sizes.start gs 3
  · exact .inl ⟨2, Nat.not_lt.mp h2, h3⟩
  · exact .inr (Nat.not_lt.mp h3)

/-- Two results agree at a row and a column. -/
theorem at_row {gs x xs w ws out out'} (h : IsResult gs x xs w ws out) (h' : IsResult gs x xs w ws out') (r : Fin 1024) (n : Fin 6144) :
    out (ix2 r n) = out' (ix2 r n) := by
  rcases row_cases gs r.val with ⟨e, h1, h2⟩ | h3
  · exact ((h r n).1 e h1 h2).trans ((h' r n).1 e h1 h2).symm
  · exact ((h r n).2 h3).trans ((h' r n).2 h3).symm

/-- There is one result. -/
theorem IsResult.unique {gs x xs w ws out out'} (h : IsResult gs x xs w ws out) (h' : IsResult gs x xs w ws out') : out = out' := by
  funext j
  rw [ValueIdx.eq_ix2 j]
  exact at_row h h' _ _

/-- Row `r` belongs to group `e`. -/
abbrev InGroup (gs : IVec (shape1 3) 32) (e r : ℕ) : Prop := Sizes.start gs e ≤ r ∧ r < Sizes.start gs (e + 1)

/-- An entry worked on by point after point, three points (one per group) to a column tile: at its own group's point it takes that
    point's value, at a tile's first point it is cleared otherwise, at the others it is kept. After a point it holds its group's value
    if its group has had its point, and zero if its row is after that group. -/
theorem entry_after (gs : IVec (shape1 3) 32) (r N : ℕ) (f : ∀ n, n < N → EReal) (E : Fin 3 → ℕ → EReal)
    (h0 : ∀ hn : 0 < N, f 0 hn = if InGroup gs 0 r then E 0 0 else 0)
    (hs : ∀ n (hn : n + 1 < N) (e : Fin 3), e.val = (n + 1) % 3 →
      f (n + 1) hn = if InGroup gs e.val r then E e ((n + 1) / 3) else if (n + 1) % 3 = 0 then 0 else f n (Nat.lt_of_succ_lt hn))
    (n : ℕ) (hn : n < N) :
    (∀ e : Fin 3, e.val ≤ n % 3 → InGroup gs e.val r → f n hn = E e (n / 3)) ∧ (Sizes.start gs (n % 3 + 1) ≤ r → f n hn = 0) := by
  induction n with
  | zero =>
    rw [h0 hn]
    refine ⟨fun e he h => ?_, fun h => if_neg fun q => absurd q.2 (Nat.not_lt.mpr h)⟩
    obtain rfl : e = 0 := Fin.ext (Nat.le_zero.mp he)
    exact if_pos h
  | succ n ih =>
    have h3 : (n + 1) % 3 < 3 := Nat.mod_lt _ (by decide)
    rw [hs n hn ⟨(n + 1) % 3, h3⟩ rfl]
    obtain ⟨ih1, ih2⟩ := ih (Nat.lt_of_succ_lt hn)
    refine ⟨fun e he h => ?_, fun h => ?_⟩
    · rcases Nat.lt_or_eq_of_le he with hlt | heq
      · have hm : Sizes.start gs (e.val + 1) ≤ Sizes.start gs ((n + 1) % 3) := Sizes.start_mono gs hlt
        have hne : ¬ (n + 1) % 3 = 0 := by omega
        rw [if_neg fun q => absurd (h.2.trans_le (hm.trans q.1)) (lt_irrefl _), if_neg hne, ih1 e (by omega) h]
        congr 1
        omega
      · obtain rfl : e = ⟨(n + 1) % 3, h3⟩ := Fin.ext heq
        exact if_pos h
    · rw [if_neg fun q => absurd q.2 (Nat.not_lt.mpr h)]
      by_cases hz : (n + 1) % 3 = 0
      · exact if_pos hz
      · rw [if_neg hz]
        refine ih2 (le_trans (Sizes.start_mono gs ?_) h)
        omega

end Cert.Spec
end
-- ==== Proof.Ideal.Payloads.lean ====
/- The two kernels' vector expressions read at an index, over the extended reals. -/
module

public import proofs.«01_k».proof.Proof.Ideal.Words
public import proofs.«01_k».proof.Proof.Spec
public import Idealize.ShloMosaic.Lib.Pointwise

@[expose] public section

set_option maxRecDepth 16384

noncomputable section

namespace Cert.KernelIdeal.Matmul

open Cert.KernelIdeal Cert.KernelIdeal.Gen
open Idealize.ShloMosaic Idealize.ShloMosaic.TcCoe

/-- The first region's block: each entry's code. -/
theorem code_at (v0 : Vec Ideal S32x16384 .bf16) (v2 : Vec Ideal S32x1 .f32) (r : Fin 32) (k : Fin 16384) :
    k0_pay1 v0 v2 (ix2 r k) = Spec.code (v0 (ix2 r k)) (v2 (ix2 r 0)) := by
  pointwise [k0_pay1]
  rfl

/-- The first run of 2048 products. -/
theorem dot3_at (x : Vec Ideal S256x2048 .fp8e4m3) (w : Vec Ideal S1x2048x512 .fp8e4m3) (r : Fin 256) (n : Fin 512) :
    k1_pay3 x w (ix2 r n) = ∑ k : Fin 2048, x (ix2 r k) * w (ix3 0 k n) := by
  pointwise [k1_pay3]

/-- A run of 2048 products added to what the runs before it gave. -/
theorem dot4_at (x : Vec Ideal S256x2048 .fp8e4m3) (w : Vec Ideal S1x2048x512 .fp8e4m3) (o : Vec Ideal S256x512 .f32) (r : Fin 256) (n : Fin 512) :
    k1_pay4 x w o (ix2 r n) = o (ix2 r n) + ∑ k : Fin 2048, x (ix2 r k) * w (ix3 0 k n) := by
  pointwise [k1_pay4]

/-- A run of 2048 products added to what the runs before it gave. -/
theorem dot7_at (x : Vec Ideal S256x2048 .fp8e4m3) (w : Vec Ideal S1x2048x512 .fp8e4m3) (o : Vec Ideal S256x512 .f32) (r : Fin 256) (n : Fin 512) :
    k1_pay7 x w o (ix2 r n) = o (ix2 r n) + ∑ k : Fin 2048, x (ix2 r k) * w (ix3 0 k n) := by
  pointwise [k1_pay7]

/-- A run of 2048 products added to what the runs before it gave. -/
theorem dot8_at (x : Vec Ideal S256x2048 .fp8e4m3) (w : Vec Ideal S1x2048x512 .fp8e4m3) (o : Vec Ideal S256x512 .f32) (r : Fin 256) (n : Fin 512) :
    k1_pay8 x w o (ix2 r n) = o (ix2 r n) + ∑ k : Fin 2048, x (ix2 r k) * w (ix3 0 k n) := by
  pointwise [k1_pay8]

/-- A run of 2048 products added to what the runs before it gave. -/
theorem dot11_at (x : Vec Ideal S256x2048 .fp8e4m3) (w : Vec Ideal S1x2048x512 .fp8e4m3) (o : Vec Ideal S256x512 .f32) (r : Fin 256) (n : Fin 512) :
    k1_pay11 x w o (ix2 r n) = o (ix2 r n) + ∑ k : Fin 2048, x (ix2 r k) * w (ix3 0 k n) := by
  pointwise [k1_pay11]

/-- A run of 2048 products added to what the runs before it gave. -/
theorem dot12_at (x : Vec Ideal S256x2048 .fp8e4m3) (w : Vec Ideal S1x2048x512 .fp8e4m3) (o : Vec Ideal S256x512 .f32) (r : Fin 256) (n : Fin 512) :
    k1_pay12 x w o (ix2 r n) = o (ix2 r n) + ∑ k : Fin 2048, x (ix2 r k) * w (ix3 0 k n) := by
  pointwise [k1_pay12]

/-- The scaled dot where the mask holds, the old entry elsewhere. -/
theorem stored_at (v33 : FVec Ideal S1x512 .f32) (mask : IVec S256x512 1) (old : Vec Ideal S256x512 .bf16) (acc : Vec Ideal S256x512 .f32)
    (r : Fin 256) (n : Fin 512) :
    k1_pay1 v33 mask old acc (ix2 r n) = Scalar.select (mask (ix2 r n)) (acc (ix2 r n) * v33 (ix2 0 n)) (old (ix2 r n)) := by
  pointwise [k1_pay1]

/-- The mask: the row's number lies between the group's two words. -/
theorem mask_at (v1 v4 b : BitVec 32) (r : Fin 256) (n : Fin 512) :
    k1_pay13 (F := Ideal) v1 v4 b (ix2 r n)
      = IntOp.andi (IntOp.cmpi .sge (IntOp.addi b (BitVec.ofNat 32 r.val)) v1) (IntOp.cmpi .slt (IntOp.addi b (BitVec.ofNat 32 r.val)) v4) := by
  pointwise [k1_pay13]

/-- The scale of a column: the group's activation scale times the weights' scale. -/
theorem scale_at (v29 : EReal) (v30 : Vec Ideal S1x1x512 .f32) (n : Fin 512) :
    k1_pay25 (F := Ideal) v29 v30 (ix2 0 n) = v29 * v30 (ix3 0 0 n) := by
  pointwise [k1_pay25]

/-- The cleared block. -/
theorem cleared_at (r : Fin 1024) (n : Fin 512) : k1_pay26 (F := Ideal) (ix2 r n) = 0 := by
  pointwise [k1_pay26]

end Cert.KernelIdeal.Matmul
end
-- ==== Proof.Ideal.Rows.lean ====
/- The row tiles of one group over the extended reals: every entry of the group's rows ends as its dot product under the
   column's scale, and every other entry keeps what it held. -/
module

public import proofs.«01_k».proof.Proof.Ideal.Payloads
public import Idealize.ShloMosaic.Lib.Pipeline.ValueKit.Tiles

@[expose] public section

set_option maxRecDepth 16384

noncomputable section

namespace Cert.KernelIdeal.Matmul

open Cert.KernelIdeal Cert.KernelIdeal.Gen
open Idealize.ShloMosaic Idealize.ShloMosaic.TcCoe

/-- The third run of products, stored in two steps. -/
theorem dot56_at (x : Vec Ideal S256x2048 .fp8e4m3) (w : Vec Ideal S1x2048x512 .fp8e4m3) (o : Vec Ideal S256x512 .f32) (r : Fin 256) (n : Fin 512) :
    k1_pay6 (k1_pay5 x w o) (ix2 r n) = o (ix2 r n) + ∑ k : Fin 2048, x (ix2 r k) * w (ix3 0 k n) := by
  pointwise [k1_pay5, k1_pay6]

/-- The sixth run of products, stored in two steps. -/
theorem dot910_at (x : Vec Ideal S256x2048 .fp8e4m3) (w : Vec Ideal S1x2048x512 .fp8e4m3) (o : Vec Ideal S256x512 .f32) (r : Fin 256) (n : Fin 512) :
    k1_pay10 (k1_pay9 x w) o (ix2 r n) = o (ix2 r n) + ∑ k : Fin 2048, x (ix2 r k) * w (ix3 0 k n) := by
  pointwise [k1_pay9, k1_pay10]

variable (x4 : Vec Ideal S1024x16384 .fp8e4m3) (x5 : Vec Ideal S1x16384x512 .fp8e4m3)

/-- The product at position `n` of row `r` and column `b`; past the last position, nothing. -/
def prod (r : Fin 1024) (b : Fin 512) (n : ℕ) : EReal :=
  if h : n < 16384 then (x4 (ix2 r ⟨n, h⟩) * x5 (ix3 0 ⟨n, h⟩ b) : EReal) else 0

/-- The entry `(r, b)` of the codes times the weights. -/
def dotOf (r : Fin 1024) (b : Fin 512) : EReal := ∑ k : Fin 16384, (x4 (ix2 r k) * x5 (ix3 0 k b) : EReal)

/-- The entry as a sum of the products by their positions' numbers. -/
theorem dotOf_eq (r : Fin 1024) (b : Fin 512) : dotOf x4 x5 r b = ∑ k : Fin 16384, prod x4 x5 r b k.val :=
  Finset.sum_congr rfl fun k _ => by unfold prod; rw [dif_pos k.isLt]

/-- One run of 2048 positions beginning at `c`, of the tile whose first row is `R`. -/
theorem chunk (off : Fin S1024x16384.rank → ℕ) (R c : ℕ) (ho : off = ![R, c])
    (inb : ∀ a, off a + S256x2048.size a ≤ S1024x16384.size a)
    (inb' : ∀ a, (![0, c, 0] : Fin 3 → ℕ) a + S1x2048x512.size a ≤ S1x16384x512.size a)
    (r : Fin 1024) (a : Fin 256) (hr : r.val = R + a.val) (b : Fin 512) :
    (∑ k : Fin 2048, ((View.ld x4 (Rect.unit (s := S1024x16384) off S256x2048.size inb) (ix2 a k) : EReal)
      * (View.ld x5 (Rect.unit (s := S1x16384x512) ![0, c, 0] S1x2048x512.size inb') (ix3 0 k b) : EReal) : EReal))
      = ∑ k : Fin 2048, prod x4 x5 r b (c + k.val) := by
  subst ho
  have hc : c + 2048 ≤ 16384 := inb 1
  refine Finset.sum_congr rfl fun k _ => ?_
  have hk : c + k.val < 16384 := by omega
  unfold prod
  rw [dif_pos hk]
  refine congrArg₂ (fun p q : EReal => p * q) (View.ld_unit_apply_of x4 _ _ inb (ix2 a k) (ix2 r ⟨c + k.val, hk⟩) ?_)
    (View.ld_unit_apply_of x5 _ _ inb' (ix3 0 k b) (ix3 0 ⟨c + k.val, hk⟩ b) ?_)
  · intro i
    match i with
    | ⟨0, _⟩ => exact hr
    | ⟨1, _⟩ => rfl
  · intro i
    match i with
    | ⟨0, _⟩ => rfl
    | ⟨1, _⟩ => rfl
    | ⟨2, _⟩ => exact (Nat.zero_add b.val).symm

variable (l h : ℕ) (hl : l ≤ 1024) (hh : h ≤ 1024) (hw : k1_chk1 (BitVec.ofNat 32 l) (BitVec.ofNat 32 h))

include hl hh in
/-- The accumulator of a tile is the whole dot product of each of its rows. -/
theorem acc_at (k : Fin (k1_t1_loop (BitVec.ofNat 32 l) (BitVec.ofNat 32 h)).trips) (r : Fin 1024) (a : Fin 256)
    (hr : r.val = rowOf l k.val + a.val) (b : Fin 512) :
    acc x4 x5 (BitVec.ofNat 32 l) (BitVec.ofNat 32 h) hw k (ix2 a b) = dotOf x4 x5 r b := by
  have hm := mult_toNat l h hl hh k
  have e (c : ℕ) : (![(k1_mult1 (BitVec.ofNat 32 l) (BitVec.ofNat 32 h) k).toNat, c] : Fin 2 → ℕ) = ![rowOf l k.val, c] := by rw [hm]
  rw [dotOf_eq, Spec.sum_chunks (prod x4 x5 r b)]
  unfold acc
  rw [dot12_at, dot11_at, dot910_at, dot8_at, dot7_at, dot56_at, dot4_at, dot3_at]
  have add {p q u v : EReal} (h1 : p = q) (h2 : u = v) : p + u = q + v := congrArg₂ _ h1 h2
  exact add (add (add (add (add (add (add (chunk x4 x5 _ _ _ (e 0) _ _ r a hr b) (chunk x4 x5 _ _ _ (e 2048) _ _ r a hr b))
    (chunk x4 x5 _ _ _ (e 4096) _ _ r a hr b)) (chunk x4 x5 _ _ _ (e 6144) _ _ r a hr b)) (chunk x4 x5 _ _ _ (e 8192) _ _ r a hr b))
    (chunk x4 x5 _ _ _ (e 10240) _ _ r a hr b)) (chunk x4 x5 _ _ _ (e 12288) _ _ r a hr b)) (chunk x4 x5 _ _ _ (e 14336) _ _ r a hr b)

/-- A number below 2³¹ read as a signed word. -/
theorem toInt_small (n : ℕ) (hn : n ≤ 2048) : (BitVec.ofNat 32 n).toInt = n := by
  rw [BitVec.toInt_eq_toNat_cond, BitVec.toNat_ofNat]; split <;> omega

/-- The mask of a row tile: the row lies in the group. -/
theorem mask_word (R a : ℕ) (hR : R ≤ 768) (ha : a < 256) (hl : l ≤ 1024) (hh : h ≤ 1024) :
    IntOp.andi (IntOp.cmpi .sge (IntOp.addi (BitVec.ofNat 32 R) (BitVec.ofNat 32 a)) (BitVec.ofNat 32 l))
      (IntOp.cmpi .slt (IntOp.addi (BitVec.ofNat 32 R) (BitVec.ofNat 32 a)) (BitVec.ofNat 32 h))
      = BitVec.ofBool (decide (l ≤ R + a ∧ R + a < h)) := by
  have e : IntOp.addi (BitVec.ofNat 32 R) (BitVec.ofNat 32 a) = BitVec.ofNat 32 (R + a) := (BitVec.ofNat_add ..).symm
  rw [e]
  show BitVec.ofBool (BitVec.sle _ _) &&& BitVec.ofBool (BitVec.slt _ _) = _
  have d1 : decide ((l : ℤ) ≤ ((R + a : ℕ) : ℤ)) = decide (l ≤ R + a) := decide_eq_decide.mpr Int.ofNat_le
  have d2 : decide (((R + a : ℕ) : ℤ) < (h : ℤ)) = decide (R + a < h) := decide_eq_decide.mpr Int.ofNat_lt
  rw [BitVec.sle, BitVec.slt, toInt_small (R + a) (by omega), toInt_small l (by omega), toInt_small h (by omega), d1, d2]
  by_cases h1 : l ≤ R + a <;> by_cases h2 : R + a < h <;> simp [h1, h2]

/-- A `select` on a decided proposition. -/
theorem select_decide (p : Prop) [Decidable p] (x y : EReal) : Scalar.select (BitVec.ofBool (decide p)) x y = if p then x else y := by
  by_cases hp : p <;> simp [Scalar.select, hp]

include hl hh in
/-- One tile: its rows of the group are stored, the rest of the block is kept. -/
theorem tile_at (v33 : FVec Ideal S1x512 .f32) (k : Fin (k1_t1_loop (BitVec.ofNat 32 l) (BitVec.ofNat 32 h)).trips)
    (o : Vec Ideal S1024x512 .bf16) (r : Fin 1024) (b : Fin 512) :
    tile x4 x5 (BitVec.ofNat 32 l) (BitVec.ofNat 32 h) hw (base (BitVec.ofNat 32 l)) v33 0#32 k o (ix2 r b)
      = if rowOf l k.val ≤ r.val ∧ r.val < rowOf l k.val + 256 ∧ l ≤ r.val ∧ r.val < h then (dotOf x4 x5 r b * v33 (ix2 0 b) : EReal)
        else (o (ix2 r b) : EReal) := by
  have hm := mult_toNat l h hl hh k
  have hR := rowOf_le l k.val
  have eoff : k1_off12 (BitVec.ofNat 32 l) (BitVec.ofNat 32 h) k = ![rowOf l k.val, 0] := by
    show (![(k1_mult1 (BitVec.ofNat 32 l) (BitVec.ofNat 32 h) k).toNat, 0] : Fin 2 → ℕ) = _
    rw [hm]
  unfold tile VecWindow.put
  by_cases hin : rowOf l k.val ≤ r.val ∧ r.val < rowOf l k.val + 256
  · have hy : ∀ a, k1_off12 (BitVec.ofNat 32 l) (BitVec.ofNat 32 h) k a ≤ ((ix2 r b : S1024x512.Idx) a).val
        ∧ ((ix2 r b : S1024x512.Idx) a).val < k1_off12 (BitVec.ofNat 32 l) (BitVec.ofNat 32 h) k a + S256x512.size a := by
      rw [eoff]
      intro a
      match a with
      | ⟨0, _⟩ => exact hin
      | ⟨1, _⟩ => exact ⟨Nat.zero_le _, (Nat.zero_add 512).symm ▸ b.isLt⟩
    rw [dif_pos hy]
    have ea : r.val - rowOf l k.val < 256 := by omega
    have ey : Rect.unitLocal (s := S1024x512) (off := k1_off12 (BitVec.ofNat 32 l) (BitVec.ofNat 32 h) k) (size := S256x512.size) (ix2 r b) hy
        = ix2 (⟨r.val - rowOf l k.val, ea⟩ : Fin 256) b := by
      funext a
      apply Fin.ext
      rw [Rect.unitLocal_val, eoff]
      match a with
      | ⟨0, _⟩ => rfl
      | ⟨1, _⟩ => rfl
    rw [ey]
    unfold stored
    rw [stored_at, mask_at, acc_at x4 x5 l h hl hh hw k r ⟨r.val - rowOf l k.val, ea⟩ (by show r.val = _ + (r.val - _); omega) b,
      show Scalar.minsi (Scalar.addi (base (BitVec.ofNat 32 l)) (Scalar.muli (Scf.iv 0#32 1#32 k) 256#32)) 768#32
        = BitVec.ofNat 32 (rowOf l k.val) from mult_eq l h hl hh k,
      mask_word l h (rowOf l k.val) (r.val - rowOf l k.val) hR ea hl hh, select_decide,
      show rowOf l k.val + (r.val - rowOf l k.val) = r.val by omega]
    by_cases hg : l ≤ r.val ∧ r.val < h
    · rw [if_pos hg, if_pos ⟨hin.1, hin.2, hg⟩]
    · rw [if_neg hg, if_neg fun q => hg q.2.2]
      refine View.ld_unit_apply_of o _ _ _ _ (ix2 r b) ?_
      intro a
      refine Eq.trans ?_ (congrArg (fun q => q + _) (congrFun eoff a).symm)
      match a with
      | ⟨0, _⟩ => show r.val = rowOf l k.val + (r.val - rowOf l k.val); omega
      | ⟨1, _⟩ => exact (Nat.zero_add b.val).symm
  · rw [dif_neg, if_neg fun q => hin ⟨q.1, q.2.1⟩]
    intro hy
    rw [eoff] at hy
    exact hin (hy 0)

include hl hh in
/-- After the first `n` tiles, the rows of the group the tiles cover are stored, the rest of the block is kept. -/
theorem tiles_at (v33 : FVec Ideal S1x512 .f32) (o : Vec Ideal S1024x512 .bf16) (r : Fin 1024) (b : Fin 512) (n : ℕ)
    (hn : n ≤ (k1_t1_loop (BitVec.ofNat 32 l) (BitVec.ofNat 32 h)).trips) :
    tiles x4 x5 (BitVec.ofNat 32 l) (BitVec.ofNat 32 h) hw (base (BitVec.ofNat 32 l)) v33 0#32 o n (ix2 r b)
      = if (∃ t < n, rowOf l t ≤ r.val ∧ r.val < rowOf l t + 256) ∧ l ≤ r.val ∧ r.val < h then (dotOf x4 x5 r b * v33 (ix2 0 b) : EReal)
        else (o (ix2 r b) : EReal) := by
  induction n with
  | zero => rw [if_neg (by rintro ⟨⟨t, ht, -⟩, -⟩; omega)]; rfl
  | succ n ih =>
    have hlt : n < (k1_t1_loop (BitVec.ofNat 32 l) (BitVec.ofNat 32 h)).trips := hn
    rw [tiles_succ _ _ _ _ _ _ _ _ _ n hlt, tile_at x4 x5 l h hl hh hw, ih (le_of_lt hlt)]
    by_cases hg : l ≤ r.val ∧ r.val < h
    · by_cases hin : rowOf l n ≤ r.val ∧ r.val < rowOf l n + 256
      · rw [if_pos ⟨hin.1, hin.2, hg⟩, if_pos ⟨⟨n, n.lt_succ_self, hin⟩, hg⟩]
      · rw [if_neg fun q => hin ⟨q.1, q.2.1⟩]
        by_cases hb : ∃ t < n, rowOf l t ≤ r.val ∧ r.val < rowOf l t + 256
        · obtain ⟨t, ht, hb'⟩ := hb
          rw [if_pos ⟨⟨t, ht, hb'⟩, hg⟩, if_pos ⟨⟨t, by omega, hb'⟩, hg⟩]
        · rw [if_neg fun q => hb q.1, if_neg]
          rintro ⟨⟨t, ht, ht'⟩, -⟩
          rcases Nat.lt_succ_iff_lt_or_eq.mp ht with h1 | rfl
          · exact hb ⟨t, h1, ht'⟩
          · exact hin ht'
    · rw [if_neg fun q => hg q.2.2, if_neg fun q => hg q.2, if_neg fun q => hg q.2]

/-- The tiles cover the group's rows. -/
theorem covered (r : ℕ) (h1 : l ≤ r) (h2 : r < h) (hh : h ≤ 1024) : ∃ t < tripsOf l h, rowOf l t ≤ r ∧ r < rowOf l t + 256 := by
  refine ⟨(r - l / 32 * 32) / 256, ?_, ?_⟩
  · unfold tripsOf; rw [if_pos (by omega)]; omega
  · unfold rowOf; omega

include hl hh in
/-- All of a group's tiles: the group's rows are stored, the rest of the block is kept. -/
theorem group_at (v33 : FVec Ideal S1x512 .f32) (o : Vec Ideal S1024x512 .bf16) (r : Fin 1024) (b : Fin 512) :
    tiles x4 x5 (BitVec.ofNat 32 l) (BitVec.ofNat 32 h) hw (base (BitVec.ofNat 32 l)) v33 0#32 o
        (k1_t1_loop (BitVec.ofNat 32 l) (BitVec.ofNat 32 h)).trips (ix2 r b)
      = if l ≤ r.val ∧ r.val < h then (dotOf x4 x5 r b * v33 (ix2 0 b) : EReal) else (o (ix2 r b) : EReal) := by
  rw [tiles_at x4 x5 l h hl hh hw v33 o r b _ le_rfl]
  by_cases hg : l ≤ r.val ∧ r.val < h
  · rw [trips1 l h hl hh, if_pos hg, if_pos ⟨covered l h r.val hg.1 hg.2 hh, hg⟩]
  · rw [if_neg hg, if_neg fun q => hg q.2]

end Cert.KernelIdeal.Matmul

end
-- ==== Proof.Ideal.Blocks.lean ====
/- What the two calls read over the extended reals, index by index: the array of codes the quantising call leaves, and the blocks
   each point of the grouped product reads. -/
module

public import proofs.«01_k».proof.Proof.Ideal.Rows
public import proofs.«01_k».proof.Proof.Ideal.Tables
public import Idealize.ShloMosaic.Lib.Pipeline.ValueKit.Geometry
public import Idealize.ShloMosaic.Lib.Pipeline.ValueKit.Acc

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (Dat Cfg Window)

variable (W : (c : Dev nD) → (b : Ref sig .tc) → Buf (Elt Ideal) ((c : Thread nD τ).loc b))

/-- A quantised block, entry by entry. -/
theorem codesBlock_at (x : Vec Ideal S32x16384 .bf16) (s : Vec Ideal S32x1 .f32) (r : Fin 32) (k : Fin 16384) :
    Quantise.codesBlock x s (ix2 r k) = Spec.code (x (ix2 r k)) (s (ix2 r 0)) := by
  unfold Quantise.codesBlock Quantise.rows Quantise.scales
  rw [View.canon_unit_zero (funext fun a => by match a with | ⟨0, _⟩ => rfl | ⟨1, _⟩ => rfl),
    View.ld_unit_zero (funext fun a => by match a with | ⟨0, _⟩ => rfl | ⟨1, _⟩ => rfl),
    View.ld_unit_zero (funext fun a => by match a with | ⟨0, _⟩ => rfl | ⟨1, _⟩ => rfl)]
  exact Matmul.code_at x s r k

/-- The rows' block at point `t`. -/
theorem index0_0 : ∀ t : Fin cfg0.N, win0_0.index t = ![t.val, 0] := (by decide +kernel : ∀ t : Fin grid0.N, win0_0.index t = ![t.val, 0])
/-- The scales' block at point `t`. -/
theorem index0_1 : ∀ t : Fin cfg0.N, win0_1.index t = ![t.val, 0] := (by decide +kernel : ∀ t : Fin grid0.N, win0_1.index t = ![t.val, 0])
/-- The codes' block at point `t`. -/
theorem index0_2 : ∀ t : Fin cfg0.N, win0_2.index t = ![t.val, 0] := (by decide +kernel : ∀ t : Fin grid0.N, win0_2.index t = ![t.val, 0])

/-- The array of codes the quantising call leaves. -/
theorem codes_eq (c : Dev nD) (G : (S1024x16384).Idx → EReal) (hG : ∀ r k, G (ix2 r k) = Spec.code (W c main_arg0 (ix2 r k)) (W c main_v39 (ix2 r 0))):
    (Quantise.dat W c).arrAt 2 cfg0.N = G := by
  refine (Quantise.dat W c).arrAt_eq_of_covers 2 _ (by decide +kernel) fun t hf y => ?_
  blk_simp
  rw [Quantise.after_2]
  have key : ∀ (r : Fin 32) (k : Fin 16384), Quantise.codesBlock (Quantise.iblk W c 0 t) (Quantise.iblk W c 1 t) (ix2 r k) = G ((win0_2.blk t).view.emb (ix2 r k)) := by
    intro r k
    have ht : t.val < 32 := t.isLt
    have e2 : (win0_2.blk t).view.emb (ix2 r k) = ix2 (⟨t.val * 32 + r.val, by omega⟩ : Fin 1024) k := by
      blk_ext [index0_2]
    rw [e2, hG, codesBlock_at]
    refine congrArg₂ Spec.code ?_ ?_
    · unfold Quantise.iblk
      blk_simp
      refine congrArg (W c main_arg0) ?_
      blk_ext [index0_0]
    · unfold Quantise.iblk
      blk_simp
      refine congrArg (W c main_v39) ?_
      blk_ext [index0_1]
  have ey := ValueIdx.eq_ix2 (n0 := 32) (n1 := 16384) y
  rw [ey]
  exact key _ _

variable (a : (pcfg1 (F := Ideal)).Adm)

/-- A point's column tile. -/
theorem coords0 : ∀ t : Fin grid1.N, (grid1.coords t 0).val = t.val / 3 := by decide +kernel
/-- A point's group. -/
theorem coords1 : ∀ t : Fin grid1.N, (grid1.coords t 1).val = t.val % 3 := by decide +kernel

/-- The codes a point reads: all of them. -/
theorem i0 (c : Dev nD) (t : Fin (cfg1 a).N) (r : Fin 1024) (k : Fin 16384) :
    Matmul.iblk W a c 0 t (ix2 r k) = W c main_v40 (ix2 r k) := by
  unfold Matmul.iblk
  refine congrArg (W c main_v40) (funext fun ax => Fin.ext ?_)
  match ax with
  | ⟨0, _⟩ => show 0 * 1024 + 1 * r.val = r.val; omega
  | ⟨1, _⟩ => show 0 * 16384 + 1 * k.val = k.val; omega

/-- The activation scales a point reads: all of them. -/
theorem i2 (c : Dev nD) (t : Fin (cfg1 a).N) (e : Fin 3) :
    Matmul.iblk W a c 2 t (ValueIdx.ix1 e) = W c main_arg2 (ValueIdx.ix1 e) := by
  unfold Matmul.iblk
  refine congrArg (W c main_arg2) (funext fun ax => Fin.ext ?_)
  match ax with
  | ⟨0, _⟩ => show 0 * 3 + 1 * e.val = e.val; omega

/-- The weight block a grid point reads, as a word. -/
def blockWord (i : grid1.Coords) : BitVec 32 := a.1.at 1 (Rect.unit (s := S3) (k1_off1 i) S1.size (k1_off1_inb i)) numel1_S1

/-- A column tile's columns are columns of the result. -/
theorem col_lt (t : Fin grid1.N) (b : Fin 512) : t.val / 3 * 512 + b.val < 6144 := by
  have : t.val < 36 := t.isLt
  omega

/-- The column of a grid point's column tile. -/
def col (t : Fin grid1.N) (b : Fin 512) : Fin 6144 := ⟨t.val / 3 * 512 + b.val, col_lt t b⟩

/-- A point's column tile, as a word. -/
theorem tileWord (t : Fin grid1.N) : (BitVec.ofNat 32 (grid1.coords t 0).val).toNat = t.val / 3 := by
  have : t.val < 36 := t.isLt
  rw [coords0, BitVec.toNat_ofNat]
  omega

/-- The weights a point reads: its column tile of the group its table names. -/
theorem i1 (c : Dev nD) (t : Fin (cfg1 a).N) (k : Fin 16384) (b : Fin 512) (e : Fin 3) (he : (blockWord a (grid1.coords t)).toNat = e.val) :
    Matmul.iblk W a c 1 t (ix3 0 k b) = W c main_arg3 (ix3 e k (col t b)) := by
  have h2 := tileWord t
  unfold Matmul.iblk
  refine congrArg (W c main_arg3) (funext fun ax => Fin.ext ?_)
  match ax with
  | ⟨0, _⟩ => show (blockWord a (grid1.coords t)).toNat * 1 + 1 * 0 = e.val; omega
  | ⟨1, _⟩ => show 0 * 16384 + 1 * k.val = k.val; omega
  | ⟨2, _⟩ => show (BitVec.ofNat 32 (grid1.coords t 0).val).toNat * 512 + 1 * b.val = t.val / 3 * 512 + b.val; omega

/-- The weight scales a point reads: its column tile of the group its table names. -/
theorem i3 (c : Dev nD) (t : Fin (cfg1 a).N) (b : Fin 512) (e : Fin 3) (he : (blockWord a (grid1.coords t)).toNat = e.val) :
    Matmul.iblk W a c 3 t (ix3 0 0 b) = W c main_v41 (ix3 e 0 (col t b)) := by
  have h2 := tileWord t
  unfold Matmul.iblk
  refine congrArg (W c main_v41) (funext fun ax => Fin.ext ?_)
  match ax with
  | ⟨0, _⟩ => show (blockWord a (grid1.coords t)).toNat * 1 + 1 * 0 = e.val; omega
  | ⟨1, _⟩ => show 0 * 1 + 1 * 0 = 0; omega
  | ⟨2, _⟩ => show (BitVec.ofNat 32 (grid1.coords t 0).val).toNat * 512 + 1 * b.val = t.val / 3 * 512 + b.val; omega

/-- The place a group's word or scale is read at. -/
theorem group_place : ∀ i : grid1.Coords, (Rect.unit (s := S3) (k1_off1 i) S1.size (k1_off1_inb i)).idx (Shape.Idx.first (s := S1) (numel1_S1.symm ▸ Nat.one_pos))
    = ValueIdx.ix1 (⟨(i 1).val, (i 1).isLt⟩ : Fin 3) := by
  decide +kernel

/-- The scale a point reads is its group's. -/
theorem xsc_eq (i : grid1.Coords) (x6 : Vec Ideal S3 .f32) : Matmul.xsc i x6 = x6 (ValueIdx.ix1 (⟨(i 1).val, (i 1).isLt⟩ : Fin 3)) :=
  congrArg x6 (group_place i)

/-- The four blocks a point reads, as arrays of their shapes: the codes, the weights, the activation scales, the weight scales. -/
def codesIn (c : Dev nD) (t : Fin grid1.N) : Vec Ideal S1024x16384 .fp8e4m3 := Matmul.iblk W a c 0 t
@[inherit_doc codesIn] def weightsIn (c : Dev nD) (t : Fin grid1.N) : Vec Ideal S1x16384x512 .fp8e4m3 := Matmul.iblk W a c 1 t
@[inherit_doc codesIn] def scalesIn (c : Dev nD) (t : Fin grid1.N) : Vec Ideal S3 .f32 := Matmul.iblk W a c 2 t
@[inherit_doc codesIn] def weightScalesIn (c : Dev nD) (t : Fin grid1.N) : Vec Ideal S1x1x512 .f32 := Matmul.iblk W a c 3 t

/-- A point's step in terms of those blocks. -/
theorem stepOut_eq (hchk : ∀ i : grid1.Coords, k1_chk1 (Matmul.lo i (Matmul.starts a)) (Matmul.hi i (Matmul.starts a))) (c : Dev nD) (t : Fin grid1.N)
    (o : Vec Ideal S1024x512 .bf16) :
    Matmul.stepOut W a hchk c t o
      = Matmul.blockOut (grid1.coords t) (Matmul.starts a) (hchk _) (codesIn W a c t) (weightsIn W a c t) (scalesIn W a c t) (weightScalesIn W a c t) o := rfl

end Cert.KernelIdeal.Run
end
-- ==== Proof.Ideal.Result.lean ====
/- The array the grouped product leaves, over the extended reals: each group's rows hold the group's entries, the rows after
   the last group hold zero. -/
module

public import proofs.«01_k».proof.Proof.Ideal.Blocks
public import Idealize.ShloMosaic.Lib.Pipeline.ValueKit.Geometry
public import Idealize.ShloMosaic.Lib.Pipeline.ValueKit.Acc

@[expose] public section

set_option maxRecDepth 16384

noncomputable section

namespace Cert.KernelIdeal.Run

open Cert.KernelIdeal Cert.KernelIdeal.Gen
open Idealize.ShloMosaic Idealize.ShloMosaic.TcCoe
open Idealize.ShloMosaic.Pipeline (Dat Cfg Window)

variable (W : (c : Dev nD) → (b : Ref sig .tc) → Buf (Elt Ideal) ((c : Thread nD τ).loc b))
variable (a : (pcfg1 (F := Ideal)).Adm)

/-- One point's block, entry by entry: the group's rows hold the scaled dot, the other rows what they held (zero at the first group). -/
theorem blockOut_at (i : grid1.Coords) (xs : Vec Ideal S4 .i32) (hw : k1_chk1 (Matmul.lo i xs) (Matmul.hi i xs)) (x4 : Vec Ideal S1024x16384 .fp8e4m3)
    (x5 : Vec Ideal S1x16384x512 .fp8e4m3) (x6 : Vec Ideal S3 .f32) (x7 : Vec Ideal S1x1x512 .f32) (o : Vec Ideal S1024x512 .bf16)
    (l h : ℕ) (el : Matmul.lo i xs = BitVec.ofNat 32 l) (eh : Matmul.hi i xs = BitVec.ofNat 32 h) (hl : l ≤ 1024) (hh : h ≤ 1024)
    (r : Fin 1024) (b : Fin 512) :
    Matmul.blockOut i xs hw x4 x5 x6 x7 o (ix2 r b)
      = if l ≤ r.val ∧ r.val < h then
          (Matmul.dotOf x4 x5 r b * ((x6 (ValueIdx.ix1 (⟨(i 1).val, (i 1).isLt⟩ : Fin 3)) : EReal) * (x7 (ix3 0 0 b) : EReal)) : EReal)
        else if Matmul.isFirst i then (0 : EReal) else (o (ix2 r b) : EReal) := by
  have key : ∀ (v1 v4 : BitVec 32) (hw : k1_chk1 v1 v4) (o' : Vec Ideal S1024x512 .bf16), v1 = BitVec.ofNat 32 l → v4 = BitVec.ofNat 32 h →
      Matmul.tiles x4 x5 v1 v4 hw (Matmul.base v1) (k1_pay25 (Matmul.xsc i x6) x7) 0#32 o' (k1_t1_loop v1 v4).trips (ix2 r b)
        = if l ≤ r.val ∧ r.val < h then
            (Matmul.dotOf x4 x5 r b * ((x6 (ValueIdx.ix1 (⟨(i 1).val, (i 1).isLt⟩ : Fin 3)) : EReal) * (x7 (ix3 0 0 b) : EReal)) : EReal)
          else (o' (ix2 r b) : EReal) := by
    rintro _ _ hw o' rfl rfl
    rw [Matmul.group_at x4 x5 l h hl hh hw, Matmul.scale_at, xsc_eq]
  unfold Matmul.blockOut
  rw [key _ _ hw _ el eh]
  by_cases hf : Matmul.isFirst i
  · rw [if_pos hf, if_pos hf, Matmul.cleared_at]
  · rw [if_neg hf, if_neg hf]

section Result

variable (hchk : ∀ i : grid1.Coords, k1_chk1 (Matmul.lo i (Matmul.starts a)) (Matmul.hi i (Matmul.starts a)))
  (gs : IVec (Routing.shape1 3) 32) (hfit : Sizes.Fits gs)
  (hlo : ∀ i : grid1.Coords, Matmul.lo i (Matmul.starts a) = BitVec.ofNat 32 (Sizes.start gs (i 1).val))
  (hhi : ∀ i : grid1.Coords, Matmul.hi i (Matmul.starts a) = BitVec.ofNat 32 (Sizes.start gs ((i 1).val + 1)))
  (hblk : ∀ (i : grid1.Coords) (r : ℕ), Sizes.start gs (i 1).val ≤ r → r < Sizes.start gs ((i 1).val + 1) → (blockWord a i).toNat = (i 1).val)
  (x : S1024x16384.Idx → EReal) (xs : S3.Idx → EReal) (w : S3x16384x6144.Idx → EReal) (ws : S3x6144.Idx → EReal) (c : Dev nD)
  (hcodes : ∀ (e : Fin 3) (r : Fin 1024) (k : Fin 16384), Sizes.start gs e.val ≤ r.val → r.val < Sizes.start gs (e.val + 1) →
    W c main_v40 (ix2 r k) = Spec.code (x (ix2 r k)) (xs (ValueIdx.ix1 e)))
  (hxs : ∀ e : Fin 3, W c main_arg2 (ValueIdx.ix1 e) = xs (ValueIdx.ix1 e))
  (hw3 : ∀ (e : Fin 3) (k : Fin 16384) (n : Fin 6144), W c main_arg3 (ix3 e k n) = w (ix3 e k n))
  (hws : ∀ (e : Fin 3) (n : Fin 6144), W c main_v41 (ix3 e 0 n) = ws (ix2 e n))

include hfit hlo hhi in
/-- One step of the output block, entry by entry. -/
theorem step_at (t : Fin grid1.N) (o : Vec Ideal S1024x512 .bf16) (r : Fin 1024) (b : Fin 512) (e : Fin 3) (he : e.val = t.val % 3) :
    Matmul.stepOut W a hchk c t o (ix2 r b)
      = if Spec.InGroup gs e.val r.val then
          (Matmul.dotOf (codesIn W a c t) (weightsIn W a c t) r b
            * ((scalesIn W a c t (ValueIdx.ix1 e) : EReal) * (weightScalesIn W a c t (ix3 0 0 b) : EReal)) : EReal)
        else if t.val % 3 = 0 then (0 : EReal) else (o (ix2 r b) : EReal) := by
  have e1 : (grid1.coords t 1).val = e.val := (coords1 t).trans he.symm
  have el := hlo (grid1.coords t)
  have eh := hhi (grid1.coords t)
  rw [e1] at el eh
  rw [stepOut_eq]
  rw [blockOut_at (grid1.coords t) _ (hchk _) _ _ _ _ o _ _ el eh (Sizes.start_le hfit (by omega)) (Sizes.start_le hfit (by omega))]
  have ee : (⟨(grid1.coords t 1).val, (grid1.coords t 1).isLt⟩ : Fin 3) = e := Fin.ext e1
  rw [ee]
  have hf := Matmul.isFirst_iff t
  by_cases h0 : t.val % 3 = 0
  · rw [if_pos h0, if_pos (hf.mpr h0)]
  · rw [if_neg h0, if_neg fun q => h0 (hf.mp q)]

include hblk hcodes hxs hw3 hws in
/-- The scaled dot of a group's row is the entry that row must hold. -/
theorem entry_at (t : Fin grid1.N) (r : Fin 1024) (b : Fin 512) (e : Fin 3) (he : e.val = t.val % 3) (h : Spec.InGroup gs e.val r.val) (n : Fin 6144)
    (hn : n = col t b) :
    (Matmul.dotOf (codesIn W a c t) (weightsIn W a c t) r b
      * ((scalesIn W a c t (ValueIdx.ix1 e) : EReal) * (weightScalesIn W a c t (ix3 0 0 b) : EReal)) : EReal)
      = Spec.entry x xs w ws e r n := by
  subst hn
  have e1 : (grid1.coords t 1).val = e.val := (coords1 t).trans he.symm
  have hb : (blockWord a (grid1.coords t)).toNat = e.val :=
    (hblk (grid1.coords t) r.val (by rw [e1]; exact h.1) (by rw [e1]; exact h.2)).trans e1
  have a2 : (scalesIn W a c t (ValueIdx.ix1 e) : EReal) = xs (ValueIdx.ix1 e) := (i2 W a c t e).trans (hxs e)
  have a3 : (weightScalesIn W a c t (ix3 0 0 b) : EReal) = ws (ix2 e (col t b)) := (i3 W a c t b e hb).trans (hws e _)
  have a0 (k : Fin 16384) : (codesIn W a c t (ix2 r k) : EReal) = Spec.code (x (ix2 r k)) (xs (ValueIdx.ix1 e)) := (i0 W a c t r k).trans (hcodes e r k h.1 h.2)
  have a1 (k : Fin 16384) : (weightsIn W a c t (ix3 0 k b) : EReal) = w (ix3 e k (col t b)) := (i1 W a c t k b e hb).trans (hw3 e k _)
  unfold Matmul.dotOf Spec.entry
  refine congrArg₂ (fun p q : EReal => p * q) (Finset.sum_congr rfl fun k _ => congrArg₂ (fun p q : EReal => p * q) (a0 k) (a1 k))
    (congrArg₂ (fun p q : EReal => p * q) a2 a3)

/-- The first point's block is a step from a cleared block. -/
theorem outBlk_zero (hn : 0 < (cfg1 a).N) : Matmul.outBlk W a hchk c 0 hn = Matmul.stepOut W a hchk c ⟨0, hn⟩ (k1_pay26 (F := Ideal)) := by
  rw [Matmul.outBlk]

/-- Every later point's block is a step from the block before it. -/
theorem outBlk_succ (n : ℕ) (hn : n + 1 < (cfg1 a).N) :
    Matmul.outBlk W a hchk c (n + 1) hn = Matmul.stepOut W a hchk c ⟨n + 1, hn⟩ (Matmul.outBlk W a hchk c n (Nat.lt_of_succ_lt hn)) := by
  rw [Matmul.outBlk]

include hfit hlo hhi hblk hcodes hxs hw3 hws in
set_option maxHeartbeats 400000 in
/-- The output block after point `t`: the rows of the groups up to the point's own hold their entries, the rows after them hold zero. -/
theorem outBlk_at (r : Fin 1024) (b : Fin 512) (t : ℕ) (hn : t < (cfg1 a).N) :
    (∀ e : Fin 3, e.val ≤ t % 3 → Spec.InGroup gs e.val r.val → (Matmul.outBlk W a hchk c t hn (ix2 r b) : EReal) = Spec.entry x xs w ws e r (col ⟨t, hn⟩ b))
    ∧ (Sizes.start gs (t % 3 + 1) ≤ r.val → (Matmul.outBlk W a hchk c t hn (ix2 r b) : EReal) = 0) := by
  have hlt : ∀ q : ℕ, (q % 12 * 512 + b.val) < 6144 := fun q => by omega
  have key := Spec.entry_after gs r.val (cfg1 a).N (fun n h => Matmul.outBlk W a hchk c n h (ix2 r b))
    (fun e q => Spec.entry x xs w ws e r ⟨q % 12 * 512 + b.val, hlt q⟩) ?_ ?_ t hn
  · have hc : (⟨t / 3 % 12 * 512 + b.val, hlt (t / 3)⟩ : Fin 6144) = col ⟨t, hn⟩ b := Fin.ext (by
      have : t < 36 := hn
      show t / 3 % 12 * 512 + b.val = t / 3 * 512 + b.val
      omega)
    rw [← hc]
    exact key
  · intro h
    show Matmul.outBlk W a hchk c 0 h (ix2 r b) = _
    rw [outBlk_zero, step_at W a hchk gs hfit hlo hhi c ⟨0, h⟩ _ r b 0 rfl]
    by_cases hg : Spec.InGroup gs 0 r.val
    · refine (if_pos hg).trans (Eq.trans ?_ (if_pos hg).symm)
      exact entry_at W a gs hblk x xs w ws c hcodes hxs hw3 hws ⟨0, h⟩ r b 0 rfl hg _ (Fin.ext (by
        show 0 % 12 * 512 + b.val = 0 / 3 * 512 + b.val
        omega))
    · refine (if_neg hg).trans (Eq.trans ?_ (if_neg hg).symm)
      exact if_pos rfl
  · intro n h e he
    show Matmul.outBlk W a hchk c (n + 1) h (ix2 r b) = _
    rw [outBlk_succ, step_at W a hchk gs hfit hlo hhi c ⟨n + 1, h⟩ _ r b e he]
    by_cases hg : Spec.InGroup gs e.val r.val
    · refine (if_pos hg).trans (Eq.trans ?_ (if_pos hg).symm)
      refine entry_at W a gs hblk x xs w ws c hcodes hxs hw3 hws ⟨n + 1, h⟩ r b e he hg _ (Fin.ext ?_)
      have : n + 1 < 36 := h
      show (n + 1) / 3 % 12 * 512 + b.val = (n + 1) / 3 * 512 + b.val
      omega
    · exact (if_neg hg).trans (if_neg hg).symm

/-- Where a point's output block lies in the result. -/
theorem out_emb (t : Fin (cfg1 a).N) (r : Fin 1024) (b : Fin 512) : (((cfg1 a).win 4).blk t).view.emb (ix2 r b) = ix2 r (col t b) := by
  have h2 := tileWord t
  funext ax
  apply Fin.ext
  match ax with
  | ⟨0, _⟩ => show 0 * 1024 + 1 * r.val = r.val; omega
  | ⟨1, _⟩ => show (BitVec.ofNat 32 (grid1.coords t 0).val).toNat * 512 + 1 * b.val = t.val / 3 * 512 + b.val; omega

/-- Every place of the result lies in a block written back. -/
theorem out_cover (r : Fin 1024) (n : Fin 6144) : ∃ (t : Fin (cfg1 a).N) (b : Fin 512), t.val % 3 = 2 ∧ n = col t b := by
  refine ⟨⟨n.val / 512 * 3 + 2, ?_⟩, ⟨n.val % 512, Nat.mod_lt _ (by decide)⟩, ?_, Fin.ext ?_⟩
  · show n.val / 512 * 3 + 2 < 36
    omega
  · show (n.val / 512 * 3 + 2) % 3 = 2
    omega
  · show n.val = (n.val / 512 * 3 + 2) / 3 * 512 + n.val % 512
    omega

include hfit hlo hhi hblk hcodes hxs hw3 hws in
/-- The array the grouped product leaves is the result. -/
theorem result_at : Spec.IsResult gs x xs w ws ((Matmul.dat W a hchk c).arrAt 4 (cfg1 a).N) := by
  intro r n
  refine (Matmul.dat W a hchk c).arrAt_forall_of_cover 4 (fun i v => ∀ (r : Fin 1024) (n : Fin 6144), i = ix2 r n →
    (∀ e : Fin 3, Sizes.start gs e.val ≤ r.val → r.val < Sizes.start gs (e.val + 1) → v = Spec.entry x xs w ws e r n)
      ∧ (Sizes.start gs 3 ≤ r.val → v = (0 : EReal))) (fun t hf y => ?_) (fun i => ?_) (ix2 r n) r n rfl
  · have h3 : t.val % 3 = 2 := (Matmul.flush_4 a t).mp hf
    have key : ∀ (y : S1024x512.Idx) (r : Fin 1024) (n : Fin 6144), (((cfg1 a).win 4).blk t).view.emb y = ix2 r n →
        (∀ e : Fin 3, Sizes.start gs e.val ≤ r.val → r.val < Sizes.start gs (e.val + 1) → Matmul.outBlk W a hchk c t.val t.isLt y = Spec.entry x xs w ws e r n)
          ∧ (Sizes.start gs 3 ≤ r.val → Matmul.outBlk W a hchk c t.val t.isLt y = (0 : EReal)) := by
      intro y r n heq
      obtain ⟨r', b, rfl⟩ : ∃ (r' : Fin 1024) (b : Fin 512), y = ix2 r' b := ⟨y 0, y 1, ValueIdx.eq_ix2 y⟩
      rw [out_emb] at heq
      obtain rfl : r' = r := congrFun heq 0
      obtain rfl : col t b = n := congrFun heq 1
      obtain ⟨k1, k2⟩ := outBlk_at W a hchk gs hfit hlo hhi hblk x xs w ws c hcodes hxs hw3 hws r' b t.val t.isLt
      rw [h3] at k1 k2
      exact ⟨fun e g1 g2 => k1 e (Nat.le_of_lt_succ e.isLt) ⟨g1, g2⟩, k2⟩
    exact key y
  · have cov : ∀ i : S1024x6144.Idx, ∃ t : Fin (cfg1 a).N, ((cfg1 a).win 4).flush t = true ∧ i ∈ (((cfg1 a).win 4).blk t).view.set := by
      intro i
      obtain ⟨r, n, rfl⟩ : ∃ (r : Fin 1024) (n : Fin 6144), i = ix2 r n := ⟨i 0, i 1, ValueIdx.eq_ix2 i⟩
      obtain ⟨t, b, ht, rfl⟩ := out_cover a r n
      refine ⟨t, (Matmul.flush_4 a t).mpr ht, ?_⟩
      rw [← out_emb]
      exact View.emb_mem_set _ _
    exact cov i

end Result

end Cert.KernelIdeal.Run
end
-- ==== Proof.Experts.lean ====
/- Which group each row belongs to, as the host computes it: the starts are marked in a vector of rows, the marks summed
   along it, and one subtracted. With sizes that fit, a row of group `e` gets the word `e`. -/
module

public import proofs.«01_k».proof.Proof.Sizes
public import Idealize.ShloMosaic.Lib.ReduceAll

@[expose] public section

set_option maxRecDepth 16384

noncomputable section

namespace Cert.Sizes

open Idealize.ShloMosaic Idealize.ShloMosaic.ValueIdx Idealize.ShloMosaic.Routing

/-- One index word, one word set, into three. -/
def setDims : ScatterDims (shape1 3) (shape1 1) shape0 where
  updateWindowDims := []
  insertedWindowDims := [0]
  scatterDimsToOperandDims := [0]
  indexVectorDim := 0
  wf := by decide

/-- Three index words, each adding one to a row's word. -/
def markDims : ScatterDims (shape1 1024) (shape2 3 1) (shape1 3) where
  updateWindowDims := []
  insertedWindowDims := [0]
  scatterDimsToOperandDims := [0]
  indexVectorDim := 1
  wf := by decide

/-- A table of three read at each row's index word. -/
def takeDims : GatherDims (shape1 3) (shape2 1024 1) (shape1 1024) where
  offsetDims := []
  collapsedSliceDims := [0]
  operandBatchingDims := []
  startIndicesBatchingDims := []
  startIndexMap := [0]
  indexVectorDim := 1
  sliceSizes := ![1]
  wf := by decide

/-- The sizes moved one place on, the first of them zero. -/
def shifted (gs : IVec (shape1 3) 32) : IVec (shape1 3) 32 :=
  Host.scatter setDims (fun _ b => b)
    (concatenate (shape1 3) 0 [⟨shape1 1, extractStridedSlice (shape1 1) ![2] gs (by decide)⟩, ⟨shape1 2, extractStridedSlice (shape1 2) ![0] gs (by decide)⟩]
      (show Shape.Concatenates [shape1 1, shape1 2] (shape1 3) 0 by decide))
    (broadcastInDim (shape1 1) ![] (by decide) (constantI shape0 32 0#32)) (constantI shape0 32 0#32)

/-- Their running sum: the starts. -/
def running (gs : IVec (shape1 3) 32) : IVec (shape1 3) 32 :=
  Host.reduceWindow IntOp.addi ![3] ![1] ![2] ![0] (shifted gs) (broadcastInDim shape0 ![] (by decide) (constantI shape0 32 0#32)) (by decide) (by decide)

/-- The starts as index words. -/
def markAt (gs : IVec (shape1 3) 32) : IVec (shape2 3 1) 32 :=
  broadcastInDim (shape2 3 1) ![0] (by decide)
    (select (cmpi .slt (running gs) (broadcastInDim (shape1 3) ![] (by decide) (constantI shape0 32 0#32)))
      (addi (running gs) (broadcastInDim (shape1 3) ![] (by decide) (constantI shape0 32 1024#32))) (running gs))

/-- Each row's count of the groups that start at it. -/
def marks (gs : IVec (shape1 3) 32) : IVec (shape1 1024) 32 :=
  Host.scatter markDims IntOp.addi (broadcastInDim (shape1 1024) ![] (by decide) (constantI shape0 32 0#32))
    (markAt gs) (broadcastInDim (shape1 3) ![] (by decide) (constantI shape0 32 1#32))

/-- The groups started by each row, less one. -/
def place (gs : IVec (shape1 3) 32) : IVec (shape1 1024) 32 :=
  subi (Host.reduceWindow IntOp.addi ![1024] ![1] ![1023] ![0] (marks gs) (broadcastInDim shape0 ![] (by decide) (constantI shape0 32 0#32)) (by decide) (by decide))
    (broadcastInDim (shape1 1024) ![] (by decide) (constantI shape0 32 1#32))

/-- An index word made non-negative as the host does it, one to a row. -/
def wrapped (v : IVec (shape1 1024) 32) : IVec (shape2 1024 1) 32 :=
  broadcastInDim (shape2 1024 1) ![0] (by decide)
    (select (cmpi .slt v (broadcastInDim (shape1 1024) ![] (by decide) (constantI shape0 32 0#32)))
      (addi v (broadcastInDim (shape1 1024) ![] (by decide) (constantI shape0 32 3#32))) v)

/-- The group of each row. -/
def expert (gs : IVec (shape1 3) 32) : IVec (shape1 1024) 32 :=
  select
    (Host.reduce IntOp.andi
      (andi (cmpi .sge (wrapped (place gs)) (broadcastInDim (shape2 1024 1) ![] (by decide) (constantI shape0 32 0#32)))
        (cmpi .sle (wrapped (place gs)) (broadcastInDim (shape2 1024 1) ![0, 1] (by decide) (broadcastInDim (shape2 1 1) ![1] (by decide) (constantI (shape1 1) 32 2#32)))))
      (constantI shape0 1 1#1) (show (shape2 1024 1).ReducesTo [1] (shape1 1024) from (by decide)) (by decide))
    (Host.gather takeDims (iotaInDim (shape1 3) 32 0) (wrapped (place gs)))
    (broadcastInDim (shape1 1024) ![] (by decide) (constantI shape0 32 2147483648#32))

/-- The number of groups started by row `r`. -/
def started (gs : IVec (shape1 3) 32) (r : ℕ) : ℕ := ((List.range 3).map fun i => if start gs i ≤ r then 1 else 0).sum

/-- A rolled vector's entries. -/
theorem roll (gs : IVec (shape1 3) 32) (x : (shape1 1).Idx → BitVec 32) (y : (shape1 2).Idx → BitVec 32) (hc : Shape.Concatenates [shape1 1, shape1 2] (shape1 3) 0) (k : Fin 2) :
    concatenate (shape1 3) 0 [⟨shape1 1, x⟩, ⟨shape1 2, y⟩] hc (ix1 k.succ) = y (ix1 k) := by
  match k with
  | ⟨0, _⟩ => exact Eq.trans (b := y _) rfl (congrArg y (funext fun a => by match a with | ⟨0, _⟩ => rfl))
  | ⟨1, _⟩ => exact Eq.trans (b := y _) rfl (congrArg y (funext fun a => by match a with | ⟨0, _⟩ => rfl))

/-- A shifted size's word. -/
theorem shifted_word (gs : IVec (shape1 3) 32) (j : Fin 3) : shifted gs (ix1 j) = BitVec.ofNat 32 (if j.val = 0 then 0 else size gs (j.val - 1)) := by
  unfold shifted
  rw [scatter_one setDims rfl rfl _ _ _ (0 : Fin 3) (by decide) rfl j]
  match j with
  | ⟨0, _⟩ => rfl
  | ⟨1, _⟩ =>
    rw [if_neg fun h => Nat.succ_ne_zero _ (congrArg Fin.val h)]
    exact (roll gs _ _ _ 0).trans ((slice1 0 gs _ 0 (by decide)).trans (word gs 0))
  | ⟨2, _⟩ =>
    rw [if_neg fun h => Nat.succ_ne_zero _ (congrArg Fin.val h)]
    exact (roll gs _ _ _ 1).trans ((slice1 0 gs _ 1 (by decide)).trans (word gs 1))

/-- The running sum's words are the starts. -/
theorem running_word (gs : IVec (shape1 3) 32) (j : Fin 3) : running gs (ix1 j) = BitVec.ofNat 32 (start gs j.val) := by
  unfold running
  rw [cumsum1 (N := 3) (Nm1 := 2) rfl (shifted gs) (fun n => if n = 0 then 0 else size gs (n - 1)) (shifted_word gs) _ rfl]
  match j with
  | ⟨0, _⟩ => rfl
  | ⟨1, _⟩ => simp [start, List.range_succ]
  | ⟨2, _⟩ => simp [start, List.range_succ]

/-- A small word is not negative, read as a signed number. -/
private theorem slt_zero_of_small {n : ℕ} (h : n < 2 ^ 31) : IntOp.cmpi .slt (BitVec.ofNat 32 n) 0#32 = 0#1 := by
  have : (BitVec.ofNat 32 n).slt 0#32 = false := by
    simp only [BitVec.slt, decide_eq_false_iff_not, BitVec.toInt, BitVec.toNat_ofNat]
    omega
  show BitVec.ofBool _ = _
  rw [this]; rfl

/-- An update lands at the row its word names. -/
theorem mark_lands (idx : IVec (shape2 3 1) 32) (i : Fin 3) (x : Fin 1024) :
    markDims.resultIdx? (ix1 i) idx = some (ix1 x) ↔ (idx (ix2 i (0 : Fin 1))).toInt = (x.val : Int) := by
  have hm : (0 : Fin 1) ∈ markDims.scatterDimsToOperandDims := List.mem_singleton.2 rfl
  have hwin : markDims.window (ix1 i) 0 = 0 := by
    unfold ScatterDims.window
    rw [dif_neg fun h => (of_decide_eq_true (List.mem_filter.1 h).2) (List.mem_singleton.2 rfl)]
  have hstart : markDims.start (ix1 i) idx 0 = (idx (ix2 i (0 : Fin 1))).toInt := by
    unfold ScatterDims.start
    rw [dif_pos hm]
    have hsi : markDims.siIdx (ix1 i) ⟨markDims.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (fun h => absurd (show (0 : ℕ) = 1 from h) (by decide) : ¬ (⟨0, by decide⟩ : Fin (shape2 3 1).rank).val = markDims.indexVectorDim)]
        unfold ScatterDims.siCoord
        simp only [Fin.val_cast]
        have e : ∀ X : Fin 1, (ix1 i X).val = i.val := fun X => by
          obtain rfl : X = 0 := Subsingleton.elim _ _
          rfl
        exact e _
      | ⟨1, _⟩ =>
        exact congrArg Fin.val (Subsingleton.elim (α := Fin 1) _ _)
    rw [hsi]
  rw [resultIdx?_ix1, hstart, hwin]
  simp

/-- A row's count of groups that start at it. -/
theorem marks_word {gs : IVec (shape1 3) 32} (h : Fits gs) (x : Fin 1024) :
    marks gs (ix1 x) = BitVec.ofNat 32 (((List.range 3).map fun i => if start gs i = x.val then 1 else 0).sum) := by
  have hidx : ∀ i : Fin 3, markAt gs (ix2 i (0 : Fin 1)) = BitVec.ofNat 32 (start gs i.val) := by
    intro i
    unfold markAt
    rw [bcCol]
    show Scalar.select (IntOp.cmpi .slt (running gs (ix1 i)) 0#32) _ (running gs (ix1 i)) = _
    rw [running_word, slt_zero_of_small (by have := start_le h (j := i.val) (by omega); omega)]
    rfl
  have hiff : ∀ i : Fin 3, markDims.resultIdx? (ix1 i) (markAt gs) = some (ix1 x) ↔ start gs i.val = x.val := fun i => by
    rw [mark_lands, hidx i, StableHlo.Predicate.toInt_ofNat_small _ (by have := start_le h (j := i.val) (by omega); omega)]
    omega
  unfold marks Host.scatter
  refine (foldl_count _ (ix1 x) (fun n => decide (start gs n.val = x.val)) (fun r n => ?_) _ _ 0 rfl).trans ?_
  · rw [symm1]
    have hi := hiff (n.cast (numel1 3))
    change _ ↔ start gs n.val = x.val at hi
    generalize markDims.resultIdx? (ix1 (n.cast (numel1 3))) (markAt gs) = o at hi ⊢
    cases o with
    | none =>
      dsimp only
      rw [if_neg fun h => by have := hi.2 (of_decide_eq_true h); cases this]
    | some k =>
      dsimp only
      by_cases e : start gs n.val = x.val
      · have hk : k = ix1 x := Option.some.inj (hi.2 e)
        rw [hk, if_pos rfl, if_pos (decide_eq_true e)]
        rfl
      · rw [if_neg fun h : ix1 x = k => e (hi.1 (congrArg some h.symm)), if_neg fun h => e (of_decide_eq_true h)]
  · rw [Nat.zero_add, countP_finRange _ (fun i => start gs i = x.val), numel1]
    simp [Nat.count_succ, List.range_succ, Nat.add_assoc]

/-- Counting one number along a range: one if the range holds it, else none. -/
private theorem sum_hits (a n : ℕ) : ((List.range n).map fun x => if a = x then 1 else 0).sum = if a < n then 1 else 0 := by
  induction n with
  | zero => simp
  | succ n ih =>
    rw [List.range_succ, List.map_append, List.sum_append, ih]
    simp only [List.map_cons, List.map_nil, List.sum_cons, List.sum_nil]
    split <;> split <;> split <;> omega

/-- The marks of the rows before `n`, summed: one for each group that starts before row `n`. -/
private theorem sum_marks (gs : IVec (shape1 3) 32) (n : ℕ) :
    ((List.range n).map fun x => ((List.range 3).map fun i => if start gs i = x then 1 else 0).sum).sum
      = ((List.range 3).map fun i => if start gs i < n then 1 else 0).sum := by
  have e : ∀ x, ((List.range 3).map fun i => if start gs i = x then 1 else 0).sum
      = (if start gs 0 = x then 1 else 0) + ((if start gs 1 = x then 1 else 0) + (if start gs 2 = x then 1 else 0)) := fun x => by
    simp [List.range_succ, Nat.add_assoc]
  simp only [e, List.sum_map_add, sum_hits]
  simp [List.range_succ, Nat.add_assoc]

/-- A row's count of the groups started, less one. -/
theorem place_word {gs : IVec (shape1 3) 32} (h : Fits gs) (r : Fin 1024) : place gs (ix1 r) = BitVec.ofNat 32 (started gs r.val - 1) ∧ started gs r.val - 1 < 3 := by
  have h0 : start gs 0 = 0 := rfl
  have h1 : 1 ≤ started gs r.val ∧ started gs r.val ≤ 3 := by
    unfold started
    simp only [List.range_succ, List.range_zero, List.nil_append, List.map_append, List.map_cons, List.map_nil, List.sum_append, List.sum_cons, List.sum_nil, h0]
    split <;> split <;> split <;> omega
  refine ⟨?_, by omega⟩
  unfold place
  show IntOp.subi (Host.reduceWindow IntOp.addi ![1024] ![1] ![1023] ![0] (marks gs) _ _ _ (ix1 r)) 1#32 = _
  rw [cumsum1 (N := 1024) (Nm1 := 1023) rfl (marks gs) (fun x => ((List.range 3).map fun i => if start gs i = x then 1 else 0).sum) (marks_word h) _ rfl, sum_marks]
  have e : ((List.range 3).map fun i => if start gs i < r.val + 1 then 1 else 0).sum = started gs r.val := by
    simp only [started, Nat.lt_succ_iff]
  rw [e]
  apply BitVec.eq_of_toNat_eq
  show (BitVec.ofNat 32 (started gs r.val) - 1#32).toNat = _
  simp only [BitVec.toNat_sub, BitVec.toNat_ofNat]
  omega

/-- A small index word is left as it is. -/
theorem wrapped_word {v : IVec (shape1 1024) 32} (r : Fin 1024) {k : ℕ} (hk : k < 3) (hv : v (ix1 r) = BitVec.ofNat 32 k) :
    wrapped v (ix2 r (0 : Fin 1)) = BitVec.ofNat 32 k := by
  unfold wrapped
  rw [bcCol]
  show Scalar.select (IntOp.cmpi .slt (v (ix1 r)) 0#32) _ (v (ix1 r)) = _
  rw [hv, slt_zero_of_small (by omega)]
  rfl

/-- The group of a row: how many groups it or a row before it starts, less one. -/
theorem expert_word {gs : IVec (shape1 3) 32} (h : Fits gs) (r : Fin 1024) : expert gs (ix1 r) = BitVec.ofNat 32 (started gs r.val - 1) := by
  have hw : ∀ r : Fin 1024, wrapped (place gs) (ix2 r (0 : Fin 1)) = BitVec.ofNat 32 (started gs r.val - 1) := fun r => wrapped_word r (place_word h r).2 (place_word h r).1
  unfold expert
  show Scalar.select (Host.reduce _ _ _ _ _ (ix1 r)) (Host.gather takeDims _ _ (ix1 r)) _ = _
  rw [Host.reduce_andi_one _ _ _ _ (ix1 r) rfl ?_, take_ap takeDims rfl rfl rfl rfl _ _ r (place_word h r).2 (by have := (place_word h r).2; omega) (hw r)]
  · rfl
  · intro i
    obtain ⟨p, q, rfl⟩ : ∃ (p : Fin 1024) (q : Fin 1), i = ix2 p q := ⟨i 0, i 1, eq_ix2 i⟩
    obtain rfl : q = 0 := Subsingleton.elim _ _
    have hp := (place_word h p).2
    show IntOp.andi (IntOp.cmpi .sge (wrapped (place gs) (ix2 p 0)) 0#32) (IntOp.cmpi .sle (wrapped (place gs) (ix2 p 0)) 2#32) = 1#1
    rw [hw p]
    generalize started gs p.val - 1 = n at hp
    interval_cases n <;> decide

/-- A row of group `e` has `e` as its index word. -/
theorem expert_of_mem {gs : IVec (shape1 3) 32} (h : Fits gs) (e : Fin 3) (r : Fin 1024) (hl : start gs e.val ≤ r.val) (hh : r.val < start gs (e.val + 1)) :
    wrapped (expert gs) (ix2 r (0 : Fin 1)) = BitVec.ofNat 32 e.val := by
  have hs : started gs r.val = e.val + 1 := by
    have m01 := start_mono gs (i := 0) (j := 1) (by omega)
    have m12 := start_mono gs (i := 1) (j := 2) (by omega)
    have m23 := start_mono gs (i := 2) (j := 3) (by omega)
    unfold started
    simp only [List.range_succ, List.range_zero, List.nil_append, List.map_append, List.map_cons, List.map_nil, List.sum_append, List.sum_cons, List.sum_nil, Nat.add_zero]
    match e with
    | ⟨0, _⟩ => simp only [Nat.zero_add] at *; rw [if_pos (by omega), if_neg (by omega), if_neg (by omega)]
    | ⟨1, _⟩ => simp only [Nat.reduceAdd] at *; rw [if_pos (by omega), if_pos (by omega), if_neg (by omega)]
    | ⟨2, _⟩ => simp only [Nat.reduceAdd] at *; rw [if_pos (by omega), if_pos (by omega), if_pos (by omega)]
  refine wrapped_word r e.isLt ?_
  rw [expert_word h, hs]
  rfl

end Cert.Sizes
end
-- ==== Proof.Ideal.Host.lean ====
/- What the host computes for the two calls besides their tables: each row's activation scale, and the weight scales. -/
module

public import proofs.«01_k».proof.Proof.Ideal.Tables
public import proofs.«01_k».proof.Proof.Experts

@[expose] public section

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Routing (shape0 shape1)

variable (m : (ℓ : Loc nD τ sig) → Buf (Elt Ideal) ℓ)

/-- Each row's activation scale, as the host gathers it. -/
def rowScales (c : Dev nD) : Vec Ideal S1024x1 .f32 :=
  broadcastInDim S1024x1 ![0] bcast_S1024_S1024x1_0
    (Host.gather gather_S3_S1024x1_S1024_n_0_n_n_0_1_1 (m ((c.tc : Thread nD τ).loc main_arg2)) (Sizes.wrapped (Sizes.expert (sizes m c))))

/-- The host writes each row's activation scale. -/
theorem rowScales_eq (c : Dev nD) : V18 m c (Proc.devRef .tc main_v39) = rowScales m c := by
  run_tidy
  simp only [StableHlo.TRef.ofBuf, StableHlo.TRef.toBuf, cast_eq]
  rfl

/-- The host writes the weight scales with a row axis of one. -/
theorem weightScales_eq (c : Dev nD) : V20 m (outs₁ m) c (Proc.devRef .tc main_v41)
    = broadcastInDim S3x1x6144 ![0, 2] bcast_S3x6144_S3x1x6144_0_2 (V19 m (outs₁ m) c (Proc.devRef .tc main_arg4)) := by
  run_tidy

end Cert.KernelIdeal.Run

end
-- ==== Proof.Ideal.Value.lean ====
/- The value of the kernel's program: from sizes that fit, the array it leaves is the result. -/
module

public import proofs.«01_k».proof.Proof.Ideal.Result
public import proofs.«01_k».proof.Proof.Ideal.Host

@[expose] public section

set_option maxRecDepth 16384

noncomputable section

namespace Cert.KernelIdeal.Run

open Cert.KernelIdeal Cert.KernelIdeal.Gen
open Idealize.ShloMosaic Idealize.ShloMosaic.TcCoe Idealize.SL.Sem
open Idealize.ShloMosaic.Routing (shape0 shape1)

variable (m : (ℓ : Loc nD τ sig) → Buf (Elt Ideal) ℓ)

/-- A row of a group gets the group's scale. -/
theorem rowScales_at (c : Dev nD) (h : Sizes.Fits (sizes m c)) (e : Fin 3) (r : Fin 1024) (hl : Sizes.start (sizes m c) e.val ≤ r.val) (hh : r.val < Sizes.start (sizes m c) (e.val + 1)) :
    rowScales m c (ix2 r 0) = m ((c.tc : Thread nD τ).loc main_arg2) (ValueIdx.ix1 e) := by
  unfold rowScales
  refine (Routing.bcCol _ _ r).trans ?_
  exact Routing.take_ap gather_S3_S1024x1_S1024_n_0_n_n_0_1_1 rfl rfl rfl rfl _ _ r e.isLt (by have := e.isLt; omega) (Sizes.expert_of_mem h e r hl hh)

/-- The tables' words are the host's. -/
theorem tables_val : (tables m).1 = tabs m 0 := by
  unfold tables
  rfl

/-- The weight block a point reads is its group's, when the group has rows. -/
theorem blockWord_eq (h : Sizes.Fits (sizes m 0)) (i : grid1.Coords) (r : ℕ) (hl : Sizes.start (sizes m 0) (i 1).val ≤ r)
    (hh : r < Sizes.start (sizes m 0) ((i 1).val + 1)) : (blockWord (tables m) i).toNat = (i 1).val := by
  have h3 : (i 1).val < 3 := (i 1).isLt
  have e : blockWord (tables m) i = Sizes.blockOf (Sizes.holdsRows bcast_S_S3 (sizes m 0)) (ValueIdx.ix1 (⟨(i 1).val, (i 1).isLt⟩ : Fin 3)) := by
    have e0 : (tables m).1 1 = blockTab (sizes m 0) := by
      rw [tables_val]
      exact tabs_1 m 0
    have e1 : blockWord (tables m) i = (tables m).1 1 ((Rect.unit (s := S3) (k1_off1 i) S1.size (k1_off1_inb i)).idx (Shape.Idx.first (s := S1) (numel1_S1.symm ▸ Nat.one_pos))) := rfl
    rw [e1, group_place i]
    exact congrFun e0 _
  have hs := Sizes.start_succ (sizes m 0) (i 1).val
  have hle := Sizes.start_le h (j := (i 1).val + 1) (by omega)
  rw [e, (Sizes.blockOf_holdsRows _ _ _).2 (by show 0 < Sizes.size _ (i 1).val; omega) (by show Sizes.size _ (i 1).val ≤ 1024; omega)]
  show (BitVec.ofNat 32 (i 1).val).toNat = _
  rw [BitVec.toNat_ofNat]
  omega

/-- The codes the grouped product finds. -/
theorem codes_found (c : Dev nD) (h : Sizes.Fits (sizes m c)) (e : Fin 3) (r : Fin 1024) (k : Fin 16384) (hl : Sizes.start (sizes m c) e.val ≤ r.val)
    (hh : r.val < Sizes.start (sizes m c) (e.val + 1)) :
    entry1 m c main_v40 (ix2 r k) = Spec.code (m ((c.tc : Thread nD τ).loc main_arg0) (ix2 r k)) (m ((c.tc : Thread nD τ).loc main_arg2) (ValueIdx.ix1 e)) := by
  have e1 : entry1 m c main_v40 = left0 m c (Proc.devRef .tc main_v40) :=
    (V20_of m (outs₁ m) c main_v40 (by decide)).trans (Function.update_self _ _ _)
  have e2 : left0 m c (Proc.devRef .tc main_v40) = (Quantise.dat (entry0 m) c).arrAt 2 cfg0.N :=
    Pipeline.afterRegion_arr (Quantise.dat (entry0 m) c) (V18 m c) winFacts0.arr_inj 2
  have e3 := codes_eq (entry0 m) c (fun i => Spec.code (entry0 m c main_arg0 i) (entry0 m c main_v39 (ix2 (i 0) 0))) (fun r k => rfl)
  have e4 : entry0 m c main_arg0 = m ((c.tc : Thread nD τ).loc main_arg0) :=
    (V19_of m (outs₁ m) c main_arg0 (by decide)).symm.trans <| (V20_of m (outs₁ m) c main_arg0 (by decide)).symm.trans <|
      (V21_of m (outs₁ m) c main_arg0 (by decide)).symm.trans (V21_main_arg0 m (outs₁ m) c)
  have e5 : entry0 m c main_v39 (ix2 r 0) = m ((c.tc : Thread nD τ).loc main_arg2) (ValueIdx.ix1 e) :=
    (congrFun (rowScales_eq m c) (ix2 r 0)).trans (rowScales_at m c h e r hl hh)
  refine (congrFun ((e1.trans e2).trans e3) (ix2 r k)).trans ?_
  exact congrArg₂ Spec.code (congrFun e4 (ix2 r k)) e5

/-- The weight scales the grouped product finds. -/
theorem weightScales_found (c : Dev nD) (e : Fin 3) (n : Fin 6144) :
    entry1 m c main_v41 (ix3 e 0 n) = m ((c.tc : Thread nD τ).loc main_arg4) (ix2 e n) := by
  have e1 : V19 m (outs₁ m) c (Proc.devRef .tc main_arg4) = m ((c.tc : Thread nD τ).loc main_arg4) :=
    (V20_of m (outs₁ m) c main_arg4 (by decide)).symm.trans <| (V21_of m (outs₁ m) c main_arg4 (by decide)).symm.trans (V21_main_arg4 m (outs₁ m) c)
  refine (congrFun (weightScales_eq m c) (ix3 e 0 n)).trans ?_
  rw [e1]
  refine broadcastInDim_apply _ _ _ _ (ix2 e n) fun ax => ?_
  match ax with
  | ⟨0, _⟩ => rfl
  | ⟨1, _⟩ => rfl

/-- From sizes that fit, the array the program leaves is the result. -/
theorem value (h : Sizes.Fits (sizes m 0)) (c : Dev nD) :
    Spec.IsResult (sizes m c) (m ((c.tc : Thread nD τ).loc main_arg0)) (m ((c.tc : Thread nD τ).loc main_arg2))
      (m ((c.tc : Thread nD τ).loc main_arg3)) (m ((c.tc : Thread nD τ).loc main_arg4)) (left1 m (tables m) (rows_ok m h) c (Proc.devRef .tc main_v42)) := by
  obtain rfl : c = 0 := Subsingleton.elim _ _
  have e1 : left1 m (tables m) (rows_ok m h) 0 (Proc.devRef .tc main_v42) = (Matmul.dat (entry1 m) (tables m) (rows_ok m h) 0).arrAt 4 (cfg1 (tables m)).N :=
    Pipeline.afterRegion_arr (Matmul.dat (entry1 m) (tables m) (rows_ok m h) 0) (V20 m (outs₁ m) 0) winFacts1.arr_inj 4
  rw [e1]
  have e2 : entry1 m 0 main_arg2 = m (((0 : Dev nD).tc : Thread nD τ).loc main_arg2) :=
    (V21_of m (outs₁ m) 0 main_arg2 (by decide)).symm.trans (V21_main_arg2 m (outs₁ m) 0)
  have e3 : entry1 m 0 main_arg3 = m (((0 : Dev nD).tc : Thread nD τ).loc main_arg3) :=
    (V21_of m (outs₁ m) 0 main_arg3 (by decide)).symm.trans (V21_main_arg3 m (outs₁ m) 0)
  exact result_at (entry1 m) (tables m) (rows_ok m h) (sizes m 0) h (lo_eq m) (hi_eq m) (fun i r hl hh => blockWord_eq m h i r hl hh) _ _ _ _ 0
    (fun e r k hl hh => codes_found m 0 h e r k hl hh) (fun e => congrFun e2 _) (fun e k n => congrFun e3 _) (fun e n => weightScales_found m 0 e n)

end Cert.KernelIdeal.Run

end
-- ==== Proof.RefHost.lean ====
/- What the reference's host computes for its call: each row's activation scale and weight scales, and which group each row
   lies in. -/
module

public import proofs.«01_k».proof.Proof.Gen.ReferenceIdeal.Frame
public import proofs.«01_k».proof.Proof.Experts

@[expose] public section

set_option maxRecDepth 16384

noncomputable section

namespace Cert.ReferenceIdeal.Run

open Cert.ReferenceIdeal Cert.ReferenceIdeal.Gen
open Idealize.ShloMosaic Idealize.ShloMosaic.TcCoe
open Idealize.ShloMosaic.Routing (shape0 shape1)

variable {F : FTy → Type} [FloatOps F]
variable (m : (ℓ : Loc nD τ sig) → Buf (Elt F) ℓ)

/-- The group sizes the program is launched with. -/
abbrev sizes (c : Dev nD) : IVec (shape1 3) 32 := m ((c.tc : Thread nD τ).loc main_arg1)

/-- Each row's activation scale. -/
def rowScales (c : Dev nD) : Vec F S1024x1 .f32 :=
  broadcastInDim S1024x1 ![0] bcast_S1024_S1024x1_0
    (Host.gather gather_S3_S1024x1_S1024_n_0_n_n_0_1_1 (m ((c.tc : Thread nD τ).loc main_arg2)) (Sizes.wrapped (Sizes.expert (sizes m c))))

/-- Each row's weight scales. -/
def rowWeightScales (c : Dev nD) : Vec F S1024x6144 .f32 :=
  Host.gather gather_S3x6144_S1024x1_S1024x6144_1_0_n_n_0_1_16144 (m ((c.tc : Thread nD τ).loc main_arg4)) (Sizes.wrapped (Sizes.expert (sizes m c)))

/-- Where each group ends. -/
def ends (gs : IVec (shape1 3) 32) : IVec S3 32 :=
  Host.reduceWindow IntOp.addi ![3] ![1] ![2] ![0] gs (broadcastInDim S_ ![] bcast_S_S_ (constantI S_ 32 0#32)) reduceWindows_S3_S3_w3s1p2_0 h_S_

/-- Which rows lie in which group. -/
def members (gs : IVec (shape1 3) 32) : IVec S3x1024x1 32 :=
  broadcastInDim S3x1024x1 ![0, 1] bcast_S3x1024_S3x1024x1_0_1
    (extui 32
      (andi
        (cmpi .sle (broadcastInDim S3x1024 ![0, 1] bcast_S3x1_S3x1024_0_1 (broadcastInDim S3x1 ![0] bcast_S3_S3x1_0 (subi (ends gs) gs)))
          (broadcastInDim S3x1024 ![0, 1] bcast_S1x1024_S3x1024_0_1 (broadcastInDim S1x1024 ![1] bcast_S1024_S1x1024_1 (iotaInDim S1024 32 0))))
        (cmpi .slt (broadcastInDim S3x1024 ![0, 1] bcast_S1x1024_S3x1024_0_1 (broadcastInDim S1x1024 ![1] bcast_S1024_S1x1024_1 (iotaInDim S1024 32 0)))
          (broadcastInDim S3x1024 ![0, 1] bcast_S3x1_S3x1024_0_1 (broadcastInDim S3x1 ![0] bcast_S3_S3x1_0 (ends gs)))))
      natLt_1_32)

/-- The host writes the membership. -/
theorem members_eq (c : Dev nD) : V m c main_v48 = members (sizes m c) := by
  simp only [V, hostOps0, hostOps0_1, hostOps0_2, hostOps0_3, hostOps0_4, hostOps0_5, hostOps0_6, hostOps0_7, hostOps0_8, hostOps0_9, hostOps0_10, List.flatten_cons, List.flatten_nil,
    List.append_nil, List.cons_append, List.nil_append]
  after_results
  simp only [StableHlo.TRef.ofBuf, StableHlo.TRef.toBuf, cast_eq]
  rfl

/-- The host writes each row's activation scale. -/
theorem rowScales_eq (c : Dev nD) : V m c main_v40 = rowScales m c := by
  simp only [V, hostOps0, hostOps0_1, hostOps0_2, hostOps0_3, hostOps0_4, hostOps0_5, hostOps0_6, hostOps0_7, hostOps0_8, hostOps0_9, hostOps0_10, List.flatten_cons, List.flatten_nil,
    List.append_nil, List.cons_append, List.nil_append]
  after_results
  simp only [StableHlo.TRef.ofBuf, StableHlo.TRef.toBuf, cast_eq]
  rfl

/-- The host writes each row's weight scales. -/
theorem rowWeightScales_eq (c : Dev nD) : V m c main_v47 = rowWeightScales m c := by
  simp only [V, hostOps0, hostOps0_1, hostOps0_2, hostOps0_3, hostOps0_4, hostOps0_5, hostOps0_6, hostOps0_7, hostOps0_8, hostOps0_9, hostOps0_10, List.flatten_cons, List.flatten_nil,
    List.append_nil, List.cons_append, List.nil_append]
  after_results
  simp only [StableHlo.TRef.ofBuf, StableHlo.TRef.toBuf, cast_eq]
  rfl

end Cert.ReferenceIdeal.Run

end
-- ==== Proof.RefPayloads.lean ====
/- The reference's vector expressions read at an index, over the extended reals. -/
module

public import proofs.«01_k».proof.Proof.Gen.ReferenceIdeal.Frame
public import proofs.«01_k».proof.Proof.Spec
public import Idealize.ShloMosaic.Lib.Pointwise

@[expose] public section

set_option maxRecDepth 16384

noncomputable section

namespace Cert.ReferenceIdeal.Run

open Cert.ReferenceIdeal Cert.ReferenceIdeal.Gen
open Idealize.ShloMosaic Idealize.ShloMosaic.TcCoe

/-- Each entry's code. -/
theorem code_at (x : Vec Ideal S1024x16384 .bf16) (s : Vec Ideal S1024x1 .f32) (r : Fin 1024) (k : Fin 16384) :
    k0_pay2 x s (ix2 r k) = Spec.code (x (ix2 r k)) (s (ix2 r 0)) := by
  pointwise [k0_pay2]
  rfl

/-- The first group's part of an entry. -/
theorem first_at (x : Vec Ideal S1024x16384 .bf16) (s : Vec Ideal S1024x1 .f32) (w : Vec Ideal S1x16384x6144 .fp8e4m3) (u : Vec Ideal S1x1024x1 .i32)
    (r : Fin 1024) (n : Fin 6144) :
    k0_pay3 x s w u (ix2 r n)
      = 0 + Scalar.select (IntOp.cmpi .ne (u (ix3 0 r 0)) 0#32) (∑ k : Fin 16384, k0_pay2 x s (ix2 r k) * w (ix3 0 k n)) (0 : EReal) := by
  pointwise [k0_pay3]

/-- The second group's part. -/
theorem second_at (x : Vec Ideal S1024x16384 .bf16) (s : Vec Ideal S1024x1 .f32) (w : Vec Ideal S1x16384x6144 .fp8e4m3) (u : Vec Ideal S1x1024x1 .i32)
    (r : Fin 1024) (n : Fin 6144) :
    k0_pay4 x s w u (ix2 r n)
      = Scalar.select (IntOp.cmpi .ne (u (ix3 0 r 0)) 0#32) (∑ k : Fin 16384, k0_pay2 x s (ix2 r k) * w (ix3 0 k n)) (0 : EReal) := by
  pointwise [k0_pay4]

/-- The three parts together, scaled. -/
theorem out_at (q : FVec Ideal S1024x16384 .fp8e4m3) (a b : FVec Ideal S1024x6144 .f32) (w : Vec Ideal S1x16384x6144 .fp8e4m3) (u : Vec Ideal S1x1024x1 .i32)
    (s : Vec Ideal S1024x1 .f32) (ws : Vec Ideal S1024x6144 .f32) (r : Fin 1024) (n : Fin 6144) :
    k0_pay1 q a b w u s ws (ix2 r n)
      = (a (ix2 r n) + b (ix2 r n) + Scalar.select (IntOp.cmpi .ne (u (ix3 0 r 0)) 0#32) (∑ k : Fin 16384, q (ix2 r k) * w (ix3 0 k n)) (0 : EReal))
        * (s (ix2 r 0) * ws (ix2 r n)) := by
  pointwise [k0_pay1]

end Cert.ReferenceIdeal.Run

end
-- ==== Proof.RefValue.lean ====
/- The value of the reference: from sizes that fit, the array it leaves is the result. -/
module

public import proofs.«01_k».proof.Proof.RefHost
public import proofs.«01_k».proof.Proof.RefPayloads
public import Idealize.ShloMosaic.Lib.Pipeline.ValueKit.Tiles
public import Idealize.ShloMosaic.Lib.Pipeline.ValueKit.Geometry

@[expose] public section

set_option maxRecDepth 16384

noncomputable section

namespace Cert.ReferenceIdeal.Run

open Cert.ReferenceIdeal Cert.ReferenceIdeal.Gen
open Idealize.ShloMosaic Idealize.ShloMosaic.TcCoe Idealize.SL.Sem
open Idealize.ShloMosaic.Routing (shape0 shape1)

/-- A group's end as a word. -/
theorem ends_word (gs : IVec (shape1 3) 32) (e : Fin 3) : ends gs (ValueIdx.ix1 e) = BitVec.ofNat 32 (Sizes.start gs (e.val + 1)) :=
  Routing.cumsum1 (N := 3) (Nm1 := 2) rfl gs (Sizes.size gs) (Sizes.word gs) _ rfl _ _ e

/-- A group's start as a word. -/
theorem starts_word (gs : IVec (shape1 3) 32) (e : Fin 3) : IntOp.subi (ends gs (ValueIdx.ix1 e)) (gs (ValueIdx.ix1 e)) = BitVec.ofNat 32 (Sizes.start gs e.val) := by
  rw [ends_word, Sizes.start_succ, Sizes.word gs e, BitVec.ofNat_add]
  exact BitVec.add_sub_cancel _ _

/-- The signed comparison of two small words is that of the numbers. -/
private theorem slt_ofNat {a b : ℕ} (ha : a < 2 ^ 31) (hb : b < 2 ^ 31) : IntOp.cmpi .slt (BitVec.ofNat 32 a) (BitVec.ofNat 32 b) = BitVec.ofBool (decide (a < b)) := by
  refine congrArg BitVec.ofBool ?_
  have h : ((BitVec.ofNat 32 a).toInt < (BitVec.ofNat 32 b).toInt) ↔ a < b := by
    rw [Idealize.ShloMosaic.WordCmp.toInt_ofNat_of_lt (w := 32) ha, Idealize.ShloMosaic.WordCmp.toInt_ofNat_of_lt (w := 32) hb]
    omega
  exact decide_eq_decide.mpr h

/-- The same of `≤`. -/
private theorem sle_ofNat {a b : ℕ} (ha : a < 2 ^ 31) (hb : b < 2 ^ 31) : IntOp.cmpi .sle (BitVec.ofNat 32 a) (BitVec.ofNat 32 b) = BitVec.ofBool (decide (a ≤ b)) := by
  refine congrArg BitVec.ofBool ?_
  have h : ((BitVec.ofNat 32 a).toInt ≤ (BitVec.ofNat 32 b).toInt) ↔ a ≤ b := by
    rw [Idealize.ShloMosaic.WordCmp.toInt_ofNat_of_lt (w := 32) ha, Idealize.ShloMosaic.WordCmp.toInt_ofNat_of_lt (w := 32) hb]
    omega
  exact decide_eq_decide.mpr h

/-- An entry of the membership, spelled out. -/
theorem members_at (gs : IVec (shape1 3) 32) (e : Fin 3) (r : Fin 1024) :
    members gs (ix3 e r 0)
      = (IntOp.andi (IntOp.cmpi .sle (IntOp.subi (ends gs (ValueIdx.ix1 e)) (gs (ValueIdx.ix1 e))) (BitVec.ofNat 32 r.val))
          (IntOp.cmpi .slt (BitVec.ofNat 32 r.val) (ends gs (ValueIdx.ix1 e)))).setWidth 32 := by
  pointwise [members]
  rfl

/-- The membership says whether the row lies in the group. -/
theorem member_iff {gs : IVec (shape1 3) 32} (h : Sizes.Fits gs) (e : Fin 3) (r : Fin 1024) :
    IntOp.cmpi .ne (members gs (ix3 e r 0)) 0#32 = BitVec.ofBool (decide (Spec.InGroup gs e.val r.val)) := by
  have h1 := Sizes.start_le h (j := e.val) (by omega)
  have h2 := Sizes.start_le h (j := e.val + 1) (by omega)
  rw [members_at, starts_word, ends_word, sle_ofNat (by omega) (by omega), slt_ofNat (by omega) (by omega)]
  have e3 : decide (Spec.InGroup gs e.val r.val) = (decide (Sizes.start gs e.val ≤ r.val) && decide (r.val < Sizes.start gs (e.val + 1))) := by
    rw [← Bool.decide_and]
  rw [e3]
  cases decide (Sizes.start gs e.val ≤ r.val) <;> cases decide (r.val < Sizes.start gs (e.val + 1)) <;> rfl

/-- A selection by a decided proposition is an `if`. -/
private theorem select_ofBool (p : Prop) [Decidable p] (x y : EReal) : Scalar.select (BitVec.ofBool (decide p)) x y = if p then x else y := by
  by_cases hp : p
  · rw [if_pos hp, decide_eq_true hp]; rfl
  · rw [if_neg hp, decide_eq_false hp]; rfl

/-- The reference's result, entry by entry: the sum over the groups of the row's product with the group's weights where the row lies
    in the group, times the row's scales. -/
theorem out_entry (gs : IVec (shape1 3) 32) (x0 : Vec Ideal S1024x16384 .bf16) (x1 : Vec Ideal S1024x1 .f32)
    (x2 : Vec Ideal S3x16384x6144 .fp8e4m3) (x3 : Vec Ideal S1024x6144 .f32) (x4 : Vec Ideal S3x1024x1 .i32)
    (r : Fin 1024) (n : Fin 6144) (h4 : ∀ e : Fin 3, IntOp.cmpi .ne (x4 (ix3 e r 0)) 0#32 = BitVec.ofBool (decide (Spec.InGroup gs e.val r.val))) :
    out0_5 x0 x1 x2 x3 x4 (ix2 r n)
      = (((0 + if Spec.InGroup gs 0 r.val then ∑ k : Fin 16384, Spec.code (x0 (ix2 r k)) (x1 (ix2 r 0)) * x2 (ix3 0 k n) else (0 : EReal))
          + if Spec.InGroup gs 1 r.val then ∑ k : Fin 16384, Spec.code (x0 (ix2 r k)) (x1 (ix2 r 0)) * x2 (ix3 1 k n) else (0 : EReal))
          + if Spec.InGroup gs 2 r.val then ∑ k : Fin 16384, Spec.code (x0 (ix2 r k)) (x1 (ix2 r 0)) * x2 (ix3 2 k n) else (0 : EReal))
        * (x1 (ix2 r 0) * x3 (ix2 r n)) := by
  unfold out0_5
  rw [View.canon_unit_zero (funext fun a => by match a with | ⟨0, _⟩ => rfl | ⟨1, _⟩ => rfl),
    View.ld_unit_zero (S := S1024x16384) (funext fun a => by match a with | ⟨0, _⟩ => rfl | ⟨1, _⟩ => rfl),
    View.ld_unit_zero (S := S1024x1) (funext fun a => by match a with | ⟨0, _⟩ => rfl | ⟨1, _⟩ => rfl),
    View.ld_unit_zero (S := S1024x6144) (funext fun a => by match a with | ⟨0, _⟩ => rfl | ⟨1, _⟩ => rfl)]
  have w0 (k : Fin 16384) : View.ld x2 r0_2 (ix3 0 k n) = x2 (ix3 0 k n) := View.ld_unit_apply_of x2 _ _ _ _ _ fun a => by
    match a with
    | ⟨0, _⟩ => rfl
    | ⟨1, _⟩ => exact (Nat.zero_add _).symm
    | ⟨2, _⟩ => exact (Nat.zero_add _).symm
  have w1 (k : Fin 16384) : View.ld x2 r0_4 (ix3 0 k n) = x2 (ix3 1 k n) := View.ld_unit_apply_of x2 _ _ _ _ _ fun a => by
    match a with
    | ⟨0, _⟩ => rfl
    | ⟨1, _⟩ => exact (Nat.zero_add _).symm
    | ⟨2, _⟩ => exact (Nat.zero_add _).symm
  have w2 (k : Fin 16384) : View.ld x2 r0_6 (ix3 0 k n) = x2 (ix3 2 k n) := View.ld_unit_apply_of x2 _ _ _ _ _ fun a => by
    match a with
    | ⟨0, _⟩ => rfl
    | ⟨1, _⟩ => exact (Nat.zero_add _).symm
    | ⟨2, _⟩ => exact (Nat.zero_add _).symm
  have u0 : View.ld x4 r0_3 (ix3 0 r 0) = x4 (ix3 0 r 0) := View.ld_unit_apply_of x4 _ _ _ _ _ fun a => by
    match a with
    | ⟨0, _⟩ => rfl
    | ⟨1, _⟩ => exact (Nat.zero_add _).symm
    | ⟨2, _⟩ => rfl
  have u1 : View.ld x4 r0_5 (ix3 0 r 0) = x4 (ix3 1 r 0) := View.ld_unit_apply_of x4 _ _ _ _ _ fun a => by
    match a with
    | ⟨0, _⟩ => rfl
    | ⟨1, _⟩ => exact (Nat.zero_add _).symm
    | ⟨2, _⟩ => rfl
  have u2 : View.ld x4 r0_7 (ix3 0 r 0) = x4 (ix3 2 r 0) := View.ld_unit_apply_of x4 _ _ _ _ _ fun a => by
    match a with
    | ⟨0, _⟩ => rfl
    | ⟨1, _⟩ => exact (Nat.zero_add _).symm
    | ⟨2, _⟩ => rfl
  rw [out_at, first_at, second_at, u0, u1, u2, h4 0, h4 1, h4 2, select_ofBool, select_ofBool, select_ofBool]
  simp only [w0, w1, w2, code_at]
  rfl

variable (m : (ℓ : Loc nD τ sig) → Buf (Elt Ideal) ℓ)

/-- A row of a group gets the group's activation scale. -/
theorem rowScales_at (c : Dev nD) (h : Sizes.Fits (sizes m c)) (e : Fin 3) (r : Fin 1024) (hr : Spec.InGroup (sizes m c) e.val r.val) :
    rowScales m c (ix2 r 0) = m ((c.tc : Thread nD τ).loc main_arg2) (ValueIdx.ix1 e) := by
  unfold rowScales
  refine (Routing.bcCol _ _ r).trans ?_
  exact Routing.take_ap gather_S3_S1024x1_S1024_n_0_n_n_0_1_1 rfl rfl rfl rfl _ _ r e.isLt (by have := e.isLt; omega) (Sizes.expert_of_mem h e r hr.1 hr.2)

/-- A row of a group gets the group's weight scales. -/
theorem rowWeightScales_at (c : Dev nD) (h : Sizes.Fits (sizes m c)) (e : Fin 3) (r : Fin 1024) (n : Fin 6144) (hr : Spec.InGroup (sizes m c) e.val r.val) :
    rowWeightScales m c (ix2 r n) = m ((c.tc : Thread nD τ).loc main_arg4) (ix2 e n) := by
  unfold rowWeightScales
  exact Routing.gather_row gather_S3x6144_S1024x1_S1024x6144_1_0_n_n_0_1_16144 rfl rfl rfl rfl rfl _ _ r n e (Sizes.expert_of_mem h e r hr.1 hr.2) (by decide)

/-! The five blocks are the whole arrays. -/

/-- The first block is the whole array. -/
theorem iblk0 (c : Dev nD) (t : Fin cfg0.N) : iblk m c 0 t = V m c main_arg0 := by
  funext y
  refine congrArg (V m c main_arg0) (funext fun ax => Fin.ext ?_)
  match ax with
  | ⟨0, _⟩ => exact (Nat.zero_mul _ ▸ Nat.zero_add _).trans (Nat.one_mul _)
  | ⟨1, _⟩ => exact (Nat.zero_mul _ ▸ Nat.zero_add _).trans (Nat.one_mul _)

/-- The second block is the whole array. -/
theorem iblk1 (c : Dev nD) (t : Fin cfg0.N) : iblk m c 1 t = V m c main_v40 := by
  funext y
  refine congrArg (V m c main_v40) (funext fun ax => Fin.ext ?_)
  match ax with
  | ⟨0, _⟩ => exact (Nat.zero_mul _ ▸ Nat.zero_add _).trans (Nat.one_mul _)
  | ⟨1, _⟩ => exact (Nat.zero_mul _ ▸ Nat.zero_add _).trans (Nat.one_mul _)

/-- The third block is the whole array. -/
theorem iblk2 (c : Dev nD) (t : Fin cfg0.N) : iblk m c 2 t = V m c main_arg3 := by
  funext y
  refine congrArg (V m c main_arg3) (funext fun ax => Fin.ext ?_)
  match ax with
  | ⟨0, _⟩ => exact (Nat.zero_mul _ ▸ Nat.zero_add _).trans (Nat.one_mul _)
  | ⟨1, _⟩ => exact (Nat.zero_mul _ ▸ Nat.zero_add _).trans (Nat.one_mul _)
  | ⟨2, _⟩ => exact (Nat.zero_mul _ ▸ Nat.zero_add _).trans (Nat.one_mul _)

/-- The fourth block is the whole array. -/
theorem iblk3 (c : Dev nD) (t : Fin cfg0.N) : iblk m c 3 t = V m c main_v47 := by
  funext y
  refine congrArg (V m c main_v47) (funext fun ax => Fin.ext ?_)
  match ax with
  | ⟨0, _⟩ => exact (Nat.zero_mul _ ▸ Nat.zero_add _).trans (Nat.one_mul _)
  | ⟨1, _⟩ => exact (Nat.zero_mul _ ▸ Nat.zero_add _).trans (Nat.one_mul _)

/-- The fifth block is the whole array. -/
theorem iblk4 (c : Dev nD) (t : Fin cfg0.N) : iblk m c 4 t = V m c main_v48 := by
  funext y
  refine congrArg (V m c main_v48) (funext fun ax => Fin.ext ?_)
  match ax with
  | ⟨0, _⟩ => exact (Nat.zero_mul _ ▸ Nat.zero_add _).trans (Nat.one_mul _)
  | ⟨1, _⟩ => exact (Nat.zero_mul _ ▸ Nat.zero_add _).trans (Nat.one_mul _)
  | ⟨2, _⟩ => exact (Nat.zero_mul _ ▸ Nat.zero_add _).trans (Nat.one_mul _)

/-- The array the call leaves is the block its one point leaves. -/
theorem out_whole (c : Dev nD) : (dats m 0 c).arrAt 5 cfg0.N
    = out0_5 (V m c main_arg0) (V m c main_v40) (V m c main_arg3) (V m c main_v47) (V m c main_v48) := by
  refine (dats m 0 c).arrAt_eq_of_covers 5 _ (by decide +kernel) fun t hf y => ?_
  have e : (dats m 0 c).after 5 t = out0_5 (V m c main_arg0) (V m c main_v40) (V m c main_arg3) (V m c main_v47) (V m c main_v48) := by
    rw [after0_5, iblk0, iblk1, iblk2, iblk3, iblk4]
  have ey : ((cfg0.win 5).blk t).view.emb y = y := by
    refine funext fun ax => Fin.ext ?_
    match ax with
    | ⟨0, _⟩ => exact (Nat.zero_mul _ ▸ Nat.zero_add _).trans (Nat.one_mul _)
    | ⟨1, _⟩ => exact (Nat.zero_mul _ ▸ Nat.zero_add _).trans (Nat.one_mul _)
  exact (congrFun e y).trans (congrArg (out0_5 (V m c main_arg0) (V m c main_v40) (V m c main_arg3) (V m c main_v47) (V m c main_v48)) ey.symm)

/-- From sizes that fit, the array the call leaves is the result. -/
theorem value (c : Dev nD) (h : Sizes.Fits (sizes m c)) :
    Spec.IsResult (sizes m c) (m ((c.tc : Thread nD τ).loc main_arg0)) (m ((c.tc : Thread nD τ).loc main_arg2))
      (m ((c.tc : Thread nD τ).loc main_arg3)) (m ((c.tc : Thread nD τ).loc main_arg4)) ((dats m 0 c).arrAt 5 cfg0.N) := by
  rw [out_whole, V_main_arg0, V_main_arg3, rowScales_eq, rowWeightScales_eq, members_eq]
  intro r n
  have key := out_entry (sizes m c) (m ((c.tc : Thread nD τ).loc main_arg0)) (rowScales m c) (m ((c.tc : Thread nD τ).loc main_arg3)) (rowWeightScales m c)
    (members (sizes m c)) r n (fun e => member_iff h e r)
  have m1 := Sizes.start_mono (sizes m c) (Nat.zero_le 1)
  have m2 := Sizes.start_mono (sizes m c) (Nat.le_succ 1)
  have m3 := Sizes.start_mono (sizes m c) (Nat.le_succ 2)
  refine ⟨fun e hl hh => key.trans ?_, fun hl => key.trans ?_⟩
  · rw [rowScales_at m c h e r ⟨hl, hh⟩, rowWeightScales_at m c h e r n ⟨hl, hh⟩]
    unfold Spec.entry
    match e, hl, hh with
    | ⟨0, _⟩, hl, hh =>
      rw [if_pos ⟨hl, hh⟩, if_neg (fun g : Spec.InGroup (sizes m c) 1 r.val => absurd g.1 (Nat.not_le.mpr hh)),
        if_neg (fun g : Spec.InGroup (sizes m c) 2 r.val => absurd (m2.trans g.1) (Nat.not_le.mpr hh)), zero_add, add_zero, add_zero]
      rfl
    | ⟨1, _⟩, hl, hh =>
      rw [if_neg (fun g : Spec.InGroup (sizes m c) 0 r.val => absurd hl (Nat.not_le.mpr g.2)), if_pos ⟨hl, hh⟩,
        if_neg (fun g : Spec.InGroup (sizes m c) 2 r.val => absurd g.1 (Nat.not_le.mpr hh)), zero_add, zero_add, add_zero]
      rfl
    | ⟨2, _⟩, hl, hh =>
      rw [if_neg (fun g : Spec.InGroup (sizes m c) 0 r.val => absurd (m2.trans hl) (Nat.not_le.mpr g.2)),
        if_neg (fun g : Spec.InGroup (sizes m c) 1 r.val => absurd hl (Nat.not_le.mpr g.2)), if_pos ⟨hl, hh⟩, zero_add, zero_add, zero_add]
      rfl
  · rw [if_neg (fun g : Spec.InGroup (sizes m c) 0 r.val => absurd (m2.trans (m3.trans hl)) (Nat.not_le.mpr g.2)),
      if_neg (fun g : Spec.InGroup (sizes m c) 1 r.val => absurd (m3.trans hl) (Nat.not_le.mpr g.2)),
      if_neg (fun g : Spec.InGroup (sizes m c) 2 r.val => absurd hl (Nat.not_le.mpr g.2)), zero_add, zero_add, zero_add, zero_mul]

/-- The run of the reference: the result array and the arguments at the end. -/
theorem run (ρ : Dev nD → PrngReg) :
    θ_run defs (onTc (τ := τ) (main (F := Ideal))) ⟨m, fun _ => 0, ρ⟩ (fun r => ∀ c : Dev nD,
      r.2.mem ((c.tc : Thread nD τ).loc main_v49) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m ρ) (unchanged m ρ))
  exact ⟨(h.1 c).1 5, h.2 c⟩

end Cert.ReferenceIdeal.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sizes_fit
public import proofs.«01_k».proof.Proof.Tables
public import proofs.«01_k».proof.Proof.Ideal.Tables
public import proofs.«01_k».proof.Proof.Ideal.Value
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel's frame. -/
theorem frame_Kernel [Cert.Pre_sizes_fit.Facts] : Cert.quiescent_Kernel := fun m g hp =>
  θ_run_mono (Cert.Kernel.Run.run_fit m (Cert.Sizes.fits_of_pre _ _ _ _ _ (hp 0)) g) fun _ h => ⟨fun c => (h.1 c).2, h.2⟩

/-- The frame of the kernel over the reals. -/
theorem frame_KernelIdeal [Cert.Pre_sizes_fit.Facts] : Cert.quiescent_KernelIdeal := fun m g hp =>
  θ_run_mono (Cert.KernelIdeal.Run.run_fit m (Cert.Sizes.fits_of_pre _ _ _ _ _ (hp 0)) g) fun _ h => ⟨fun c => (h.1 c).2, h.2⟩

/-- The reference's frame. -/
theorem frame_ReferenceIdeal [Cert.Pre_sizes_fit.Facts] : Cert.quiescent_ReferenceIdeal := fun m g _ => Cert.ReferenceIdeal.Gen.frame m g

/-- Over the reals the kernel and the reference leave the same array: each leaves the one array that holds every group's rows at the
    group's entries and the rows after the last group at zero. -/
theorem algebraic [Cert.Pre_sizes_fit.Facts] : Cert.algebraic_KernelIdeal_ReferenceIdeal := fun m g m' g' hp hm => by
  have hf := Cert.Sizes.fits_of_pre _ _ _ _ _ (hp 0)
  refine ⟨fun c => Cert.KernelIdeal.Run.left1 m (Cert.KernelIdeal.Run.tables m) (Cert.KernelIdeal.Run.rows_ok m hf) c (Proc.devRef .tc Cert.KernelIdeal.main_v42),
    θ_run_mono (Cert.KernelIdeal.Run.run_fit m hf g) fun _ h => h.1, θ_run_mono (Cert.ReferenceIdeal.Run.run m' g') fun r h c => ⟨(h c).1.trans ?_, (h c).2⟩⟩
  obtain rfl : c = 0 := Subsingleton.elim _ _
  obtain ⟨e0, e1, e2, e3, e4⟩ := hm 0
  have hf' : Cert.Sizes.Fits (Cert.ReferenceIdeal.Run.sizes m' 0) := by
    rw [Cert.ReferenceIdeal.Run.sizes, e1]
    exact hf
  have hr := Cert.ReferenceIdeal.Run.value m' 0 hf'
  rw [Cert.ReferenceIdeal.Run.sizes, e0, e1, e2, e3, e4] at hr
  exact Cert.Spec.IsResult.unique hr (Cert.KernelIdeal.Run.value m hf 0)

/-- The certificate's claims, all five. -/
theorem claim : Cert.Claim := ⟨Cert.Kernel.Gen.facts, Cert.KernelIdeal.Gen.facts, Cert.ReferenceIdeal.Gen.facts, Cert.Pre_sizes_fit.Gen.facts,
  frame_Kernel, frame_KernelIdeal, frame_ReferenceIdeal, trivial, algebraic⟩

end Cert.Proof

end
